-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_routed_KernelIdeal [hPre_finite_and_routed_KernelIdeal : Cert.Pre_finite_and_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_routed_ReferenceIdeal [hPre_finite_and_routed_ReferenceIdeal : Cert.Pre_finite_and_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_routed_KernelIdeal [hKernelIdeal : Cert.KernelIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_routed_ReferenceIdeal [hReferenceIdeal : Cert.ReferenceIdeal.Facts] [hPre_finite_and_routed_ReferenceIdeal : Cert.Pre_finite_and_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_routed_KernelIdeal [hKernelIdeal : Cert.KernelIdeal.Facts] [hReferenceIdeal : Cert.ReferenceIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_routed_KernelIdeal : Cert.Pre_finite_and_routed_KernelIdeal.Facts) (hPre_finite_and_routed_ReferenceIdeal : Cert.Pre_finite_and_routed_ReferenceIdeal.Facts),
    quiescent_Kernel (hKernel := hKernel)
    ∧ quiescent_KernelIdeal (hKernelIdeal := hKernelIdeal)
    ∧ quiescent_KernelIdeal_pre_finite_and_routed_KernelIdeal (hKernelIdeal := hKernelIdeal) (hPre_finite_and_routed_KernelIdeal := hPre_finite_and_routed_KernelIdeal)
    ∧ quiescent_ReferenceIdeal (hReferenceIdeal := hReferenceIdeal)
    ∧ quiescent_ReferenceIdeal_pre_finite_and_routed_ReferenceIdeal (hReferenceIdeal := hReferenceIdeal) (hPre_finite_and_routed_ReferenceIdeal := hPre_finite_and_routed_ReferenceIdeal)
    ∧ preserves_Kernel_KernelIdeal
    ∧ algebraic_KernelIdeal_ReferenceIdeal_pre_finite_and_routed_KernelIdeal (hKernelIdeal := hKernelIdeal) (hReferenceIdeal := hReferenceIdeal) (hPre_finite_and_routed_KernelIdeal := hPre_finite_and_routed_KernelIdeal)
-- ==== Pre_finite_and_routed_KernelIdeal.lean ====
abbrev S2048x512 : Shape := ⟨2, ![2048, 512]⟩
abbrev S512x16 : Shape := ⟨2, ![512, 16]⟩
abbrev S2048x2 : Shape := ⟨2, ![2048, 2]⟩
abbrev S4x512x1024 : Shape := ⟨3, ![4, 512, 1024]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  bcast_S_S512x16 : S_.BroadcastsInDim S512x16 (![] : Fin 0 → Fin S512x16.rank)
  bcast_S_S2048x2 : S_.BroadcastsInDim S2048x2 (![] : Fin 0 → Fin S2048x2.rank)

variable [Facts]

def fn {F : FTy → Type} [FloatOps F] (main_arg0 : FVec F S2048x512 .bf16) (main_arg1 : FVec F S512x16 .bf16) (main_arg2 : IVec S2048x2 32) (main_arg3 : FVec F S4x512x1024 .bf16) : IVec S2048x512 1 × IVec S512x16 1 × IVec S2048x2 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_v4 : FVec F S512x16 .f32 := (extf .f32 · bitsLt_bf16_f32) main_arg1
  let main_v5 : FVec F S512x16 .f32 := Host.absf main_v4
  let main_cst_0 : FVec F S_ .f32 := constant S_ .f32 0x7F800000#32
  let main_v6 : FVec F S512x16 .f32 := broadcastInDim S512x16 ![] bcast_S_S512x16 main_cst_0
  let main_v7 : IVec S512x16 1 := cmpf .olt main_v5 main_v6
  let main_c : IVec S_ 32 := constantI S_ 32 0#32
  let main_v8 : IVec S2048x2 32 := broadcastInDim S2048x2 ![] bcast_S_S2048x2 main_c
  let main_v9 : IVec S2048x2 1 := cmpi .sge main_arg2 main_v8
  let main_c_1 : IVec S_ 32 := constantI S_ 32 16#32
  let main_v10 : IVec S2048x2 32 := broadcastInDim S2048x2 ![] bcast_S_S2048x2 main_c_1
  let main_v11 : IVec S2048x2 1 := cmpi .slt main_arg2 main_v10
  let main_v12 : IVec S2048x2 1 := andi main_v9 main_v11
  (main_v3, main_v7, main_v12)
-- ==== Pre_finite_and_routed_ReferenceIdeal.lean ====
abbrev S2048x512 : Shape := ⟨2, ![2048, 512]⟩
abbrev S512x16 : Shape := ⟨2, ![512, 16]⟩
abbrev S2048x2 : Shape := ⟨2, ![2048, 2]⟩
abbrev S16x512x1024 : Shape := ⟨3, ![16, 512, 1024]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  bcast_S_S512x16 : S_.BroadcastsInDim S512x16 (![] : Fin 0 → Fin S512x16.rank)
  bcast_S_S2048x2 : S_.BroadcastsInDim S2048x2 (![] : Fin 0 → Fin S2048x2.rank)

variable [Facts]

def fn {F : FTy → Type} [FloatOps F] (main_arg0 : FVec F S2048x512 .bf16) (main_arg1 : FVec F S512x16 .bf16) (main_arg2 : IVec S2048x2 32) (main_arg3 : FVec F S16x512x1024 .bf16) : IVec S2048x512 1 × IVec S512x16 1 × IVec S2048x2 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_v4 : FVec F S512x16 .f32 := (extf .f32 · bitsLt_bf16_f32) main_arg1
  let main_v5 : FVec F S512x16 .f32 := Host.absf main_v4
  let main_cst_0 : FVec F S_ .f32 := constant S_ .f32 0x7F800000#32
  let main_v6 : FVec F S512x16 .f32 := broadcastInDim S512x16 ![] bcast_S_S512x16 main_cst_0
  let main_v7 : IVec S512x16 1 := cmpf .olt main_v5 main_v6
  let main_c : IVec S_ 32 := constantI S_ 32 0#32
  let main_v8 : IVec S2048x2 32 := broadcastInDim S2048x2 ![] bcast_S_S2048x2 main_c
  let main_v9 : IVec S2048x2 1 := cmpi .sge main_arg2 main_v8
  let main_c_1 : IVec S_ 32 := constantI S_ 32 16#32
  let main_v10 : IVec S2048x2 32 := broadcastInDim S2048x2 ![] bcast_S_S2048x2 main_c_1
  let main_v11 : IVec S2048x2 1 := cmpi .slt main_arg2 main_v10
  let main_v12 : IVec S2048x2 1 := andi main_v9 main_v11
  (main_v3, main_v7, main_v12)
-- ==== Kernel.lean ====
abbrev S2048x512 : Shape := ⟨2, ![2048, 512]⟩
abbrev S512x16 : Shape := ⟨2, ![512, 16]⟩
abbrev S2048x2 : Shape := ⟨2, ![2048, 2]⟩
abbrev S4x512x1024 : Shape := ⟨3, ![4, 512, 1024]⟩
abbrev S2048x1024 : Shape := ⟨2, ![2048, 1024]⟩
abbrev S4x512x512 : Shape := ⟨3, ![4, 512, 512]⟩
abbrev S6x512x512 : Shape := ⟨3, ![6, 512, 512]⟩
abbrev S6 : Shape := ⟨1, ![6]⟩
abbrev S_ : Shape := ⟨0, ![]⟩
abbrev S1x16 : Shape := ⟨2, ![1, 16]⟩
abbrev S512x512 : Shape := ⟨2, ![512, 512]⟩
abbrev S512x1 : Shape := ⟨2, ![512, 1]⟩
abbrev S512 : Shape := ⟨1, ![512]⟩
abbrev S512x1024 : Shape := ⟨2, ![512, 1024]⟩
abbrev S1x512x1024 : Shape := ⟨3, ![1, 512, 1024]⟩
abbrev S1x512x512 : Shape := ⟨3, ![1, 512, 512]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S2048x512, .bf16⟩
  | .hbm, ⟨1, _⟩ => ⟨S512x16, .bf16⟩
  | .hbm, ⟨2, _⟩ => ⟨S2048x2, .i32⟩
  | .hbm, ⟨3, _⟩ => ⟨S4x512x1024, .bf16⟩
  | .hbm, ⟨4, _⟩ => ⟨S2048x1024, .f32⟩
  | .local _ .vmem, ⟨0, _⟩ => ⟨S2048x512, .bf16⟩
  | .local _ .vmem, ⟨1, _⟩ => ⟨S512x16, .bf16⟩
  | .local _ .vmem, ⟨2, _⟩ => ⟨S2048x2, .i32⟩
  | .local _ .vmem, ⟨3, _⟩ => ⟨S4x512x1024, .bf16⟩
  | .local _ .vmem, ⟨4, _⟩ => ⟨S2048x1024, .f32⟩
  | .local _ .vmem, ⟨5, _⟩ => ⟨S4x512x512, .bf16⟩
  | .local _ .vmem, ⟨6, _⟩ => ⟨S4x512x512, .bf16⟩
  | .local _ .vmem, ⟨7, _⟩ => ⟨S6x512x512, .bf16⟩
  | .local _ .vmem, ⟨8, _⟩ => ⟨S6x512x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_12 : BitVec 32 := 4#32
  let v16 : BitVec 32 := Scalar.addi v2 c4_i32_12
  let v17 : BitVec 32 := Scalar.subi v16 c1_i32_13
  let c4_i32_14 : BitVec 32 := 4#32
  let v18 : BitVec 32 := Scalar.remsi v17 c4_i32_14
  let c512_i32 : BitVec 32 := 512#32
  let v21 : BitVec 32 := Scalar.muli v18 c512_i32
  let v22 : Index := Scalar.indexCast v21
  let c0_17 : Index := 0#32
  ![v22.toNat, 0]
def k0_off2 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_12 : BitVec 32 := 4#32
  let v16 : BitVec 32 := Scalar.addi v2 c4_i32_12
  let v17 : BitVec 32 := Scalar.subi v16 c1_i32_13
  let c4_i32_14 : BitVec 32 := 4#32
  let v18 : BitVec 32 := Scalar.remsi v17 c4_i32_14
  let c512_i32 : BitVec 32 := 512#32
  let v21 : BitVec 32 := Scalar.muli v18 c512_i32
  let v28 : Index := Scalar.indexCast v21
  let c0_20 : Index := 0#32
  ![v28.toNat, 0]
def k0_off3 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_12 : BitVec 32 := 4#32
  let v16 : BitVec 32 := Scalar.addi v2 c4_i32_12
  let v17 : BitVec 32 := Scalar.subi v16 c1_i32_13
  let c4_i32_14 : BitVec 32 := 4#32
  let v18 : BitVec 32 := Scalar.remsi v17 c4_i32_14
  let c512_i32 : BitVec 32 := 512#32
  let v21 : BitVec 32 := Scalar.muli v18 c512_i32
  let v31 : Index := Scalar.indexCast v21
  let c1 : Index := 1#32
  ![v31.toNat, 1]
def k0_off4 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_12 : BitVec 32 := 4#32
  let v16 : BitVec 32 := Scalar.addi v2 c4_i32_12
  let v17 : BitVec 32 := Scalar.subi v16 c1_i32_13
  let c4_i32_14 : BitVec 32 := 4#32
  let v18 : BitVec 32 := Scalar.remsi v17 c4_i32_14
  let c512_i32 : BitVec 32 := 512#32
  let v21 : BitVec 32 := Scalar.muli v18 c512_i32
  let v133 : Index := Scalar.indexCast v21
  let c0_48 : Index := 0#32
  ![v133.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c512_i32_49 : BitVec 32 := 512#32
  let v135 : BitVec 32 := Scalar.muli v20 c512_i32_49
  let v136 : Index := Scalar.indexCast v135
  let c0_50 : Index := 0#32
  ![v136.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c512_i32_49 : BitVec 32 := 512#32
  let v135 : BitVec 32 := Scalar.muli v20 c512_i32_49
  let v142 : Index := Scalar.indexCast v135
  let c0_54 : Index := 0#32
  ![v142.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c512_i32_49 : BitVec 32 := 512#32
  let v135 : BitVec 32 := Scalar.muli v20 c512_i32_49
  let v145 : Index := Scalar.indexCast v135
  let c1_55 : Index := 1#32
  ![v145.toNat, 1]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 32 := Scalar.addi v2 c1_i32_15
  let c4_i32_16 : BitVec 32 := 4#32
  let v20 : BitVec 32 := Scalar.remsi v19 c4_i32_16
  let c512_i32_49 : BitVec 32 := 512#32
  let v135 : BitVec 32 := Scalar.muli v20 c512_i32_49
  let v247 : Index := Scalar.indexCast v135
  let c0_84 : Index := 0#32
  ![v247.toNat, 0]
def k0_off9 (d0 : Dev nD) (c0_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v249 : BitVec 32 := Scalar.addi v2 c8_i32
  let c1_i32_85 : BitVec 32 := 1#32
  let v250 : BitVec 32 := Scalar.subi v249 c1_i32_85
  let v251 : BitVec 32 := Scalar.subi v250 c0_i32_86
  let c4_i32_87 : BitVec 32 := 4#32
  let v252 : BitVec 32 := Scalar.remsi v251 c4_i32_87
  let c512_i32_88 : BitVec 32 := 512#32
  let v253 : BitVec 32 := Scalar.muli v252 c512_i32_88
  let v254 : Index := Scalar.indexCast v253
  let c0_89 : Index := 0#32
  ![v254.toNat, 0]
def k0_dev3 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_97 : BitVec 32 := 1#32
  let v261 : BitVec 32 := Scalar.muli v7 c1_i32_97
  let v262 : BitVec 32 := Scalar.addi c0_i32_98 v261
  v262.toNat
def k0_off10 (d0 : Dev nD) (c0_i32_104 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_103 : BitVec 32 := 1#32
  let v271 : BitVec 32 := Scalar.addi v2 c1_i32_103
  let v272 : BitVec 32 := Scalar.addi v271 c0_i32_104
  let c4_i32_105 : BitVec 32 := 4#32
  let v273 : BitVec 32 := Scalar.remsi v272 c4_i32_105
  let c512_i32_106 : BitVec 32 := 512#32
  let v274 : BitVec 32 := Scalar.muli v273 c512_i32_106
  let v275 : Index := Scalar.indexCast v274
  let c512 : Index := 512#32
  ![v275.toNat, 512]
def k0_dev4 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_114 : BitVec 32 := 1#32
  let v282 : BitVec 32 := Scalar.muli v5 c1_i32_114
  let v283 : BitVec 32 := Scalar.addi c0_i32_115 v282
  v283.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_159 : BitVec 32 := 512#32
  let v409 : BitVec 32 := Scalar.muli v2 c512_i32_159
  let v410 : Index := Scalar.indexCast v409
  let c0_160 : Index := 0#32
  ![v410.toNat, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_159 : BitVec 32 := 512#32
  let v409 : BitVec 32 := Scalar.muli v2 c512_i32_159
  let v416 : Index := Scalar.indexCast v409
  let c0_164 : Index := 0#32
  ![v416.toNat, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_159 : BitVec 32 := 512#32
  let v409 : BitVec 32 := Scalar.muli v2 c512_i32_159
  let v419 : Index := Scalar.indexCast v409
  let c1_165 : Index := 1#32
  ![v419.toNat, 1]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_159 : BitVec 32 := 512#32
  let v409 : BitVec 32 := Scalar.muli v2 c512_i32_159
  let v521 : Index := Scalar.indexCast v409
  let c0_194 : Index := 0#32
  ![v521.toNat, 0]
def k0_dev5 (d0 : Dev nD) : Nat :=
  let c0_i32_222 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_221 : BitVec 32 := 1#32
  let v547 : BitVec 32 := Scalar.muli v7 c1_i32_221
  let v548 : BitVec 32 := Scalar.addi c0_i32_222 v547
  v548.toNat
def k0_dev6 (d0 : Dev nD) : Nat :=
  let c0_i32_253 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_252 : BitVec 32 := 1#32
  let v580 : BitVec 32 := Scalar.muli v5 c1_i32_252
  let v581 : BitVec 32 := Scalar.addi c0_i32_253 v580
  v581.toNat
def k0_dev7 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_283 : BitVec 32 := 1#32
  let v614 : BitVec 32 := Scalar.muli v7 c1_i32_283
  let v615 : BitVec 32 := Scalar.addi c0_i32_284 v614
  v615.toNat
def k0_dev8 (d0 : Dev nD) : Nat :=
  let c0_i32_315 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_314 : BitVec 32 := 1#32
  let v647 : BitVec 32 := Scalar.muli v5 c1_i32_314
  let v648 : BitVec 32 := Scalar.addi c0_i32_315 v647
  v648.toNat
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_330 : BitVec 32 := 512#32
  let v665 : BitVec 32 := Scalar.muli v2 c512_i32_330
  let v666 : Index := Scalar.indexCast v665
  let c0_331 : Index := 0#32
  ![v666.toNat, 0]
def k0_dev9 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_341 : BitVec 32 := 1#32
  let v677 : BitVec 32 := Scalar.muli v7 c1_i32_341
  let v678 : BitVec 32 := Scalar.addi c0_i32_342 v677
  v678.toNat
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_359 : BitVec 32 := 512#32
  let v698 : BitVec 32 := Scalar.muli v2 c512_i32_359
  let v699 : Index := Scalar.indexCast v698
  let c512_360 : Index := 512#32
  ![v699.toNat, 512]
def k0_dev10 (d0 : Dev nD) : Nat :=
  let c0_i32_372 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_371 : BitVec 32 := 1#32
  let v710 : BitVec 32 := Scalar.muli v5 c1_i32_371
  let v711 : BitVec 32 := Scalar.addi c0_i32_372 v710
  v711.toNat
def k0_dev11 (d0 : Dev nD) : Nat :=
  let c0_i32_394 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_393 : BitVec 32 := 1#32
  let v731 : BitVec 32 := Scalar.muli v7 c1_i32_393
  let v732 : BitVec 32 := Scalar.addi c0_i32_394 v731
  v732.toNat
def k0_dev12 (d0 : Dev nD) : Nat :=
  let c0_i32_423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_422 : BitVec 32 := 1#32
  let v759 : BitVec 32 := Scalar.muli v5 c1_i32_422
  let v760 : BitVec 32 := Scalar.addi c0_i32_423 v759
  v760.toNat
def k0_dev13 (d0 : Dev nD) : Nat :=
  let c0_i32_450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_449 : BitVec 32 := 1#32
  let v786 : BitVec 32 := Scalar.muli v7 c1_i32_449
  let v787 : BitVec 32 := Scalar.addi c0_i32_450 v786
  v787.toNat
def k0_dev14 (d0 : Dev nD) : Nat :=
  let c0_i32_478 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_477 : BitVec 32 := 1#32
  let v814 : BitVec 32 := Scalar.muli v5 c1_i32_477
  let v815 : BitVec 32 := Scalar.addi c0_i32_478 v814
  v815.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x16 : Shape := ⟨2, ![512, 16]⟩
abbrev S2048x2 : Shape := ⟨2, ![2048, 2]⟩
abbrev S16x512x1024 : Shape := ⟨3, ![16, 512, 1024]⟩
abbrev S2048x16 : Shape := ⟨2, ![2048, 16]⟩
abbrev S_ : Shape := ⟨0, ![]⟩
abbrev S2048 : Shape := ⟨1, ![2048]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩
abbrev S2048x512x1024 : Shape := ⟨3, ![2048, 512, 1024]⟩
abbrev S2048x1024 : Shape := ⟨2, ![2048, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x16, .bf16⟩
  | .hbm, ⟨2, _⟩ => ⟨S2048x2, .i32⟩
  | .hbm, ⟨3, _⟩ => ⟨S16x512x1024, .bf16⟩
  | .hbm, ⟨4, _⟩ => ⟨S2048x512, .f32⟩
  | .hbm, ⟨5, _⟩ => ⟨S512x16, .f32⟩
  | .hbm, ⟨6, _⟩ => ⟨S2048x16, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x16, .f32⟩
  | .hbm, ⟨11, _⟩ => ⟨S2048x16, .f32⟩
  | .hbm, ⟨12, _⟩ => ⟨S2048x16, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x16, .f32⟩
  | .hbm, ⟨17, _⟩ => ⟨S2048x16, .f32⟩
  | .hbm, ⟨18, _⟩ => ⟨S2048x1, .i32⟩
  | .hbm, ⟨19, _⟩ => ⟨S2048, .i32⟩
  | .hbm, ⟨20, _⟩ => ⟨S2048x1, .i32⟩
  | .hbm, ⟨21, _⟩ => ⟨S2048, .i32⟩
  | .hbm, ⟨22, _⟩ => ⟨S2048x1, .i32⟩
  | .hbm, ⟨23, _⟩ => ⟨S_, .i32⟩
  | .hbm, ⟨24, _⟩ => ⟨S2048x1, .i32⟩
  | .hbm, ⟨25, _⟩ => ⟨S2048x1, .i1⟩
  | .hbm, ⟨26, _⟩ => ⟨S_, .i32⟩
  | .hbm, ⟨27, _⟩ => ⟨S2048x1, .i32⟩
  | .hbm, ⟨28, _⟩ => ⟨S2048x1, .i32⟩
  | .hbm, ⟨29, _⟩ => ⟨S2048x1, .i32⟩
  | .hbm, ⟨30, _⟩ => ⟨S2048x1x1, .i32⟩
  | .hbm, ⟨31, _⟩ => ⟨S1, .i32⟩
  | .hbm, ⟨32, _⟩ => ⟨S_, .i32⟩
  | .hbm, ⟨33, _⟩ => ⟨S2048x1x1, .i32⟩
  | .hbm, ⟨34, _⟩ => ⟨S2048x1x1, .i1⟩
  | .hbm, ⟨35, _⟩ => ⟨S1x1x1, .i32⟩
  | .hbm, ⟨36, _⟩ => ⟨S2048x1x1, .i32⟩
  | .hbm, ⟨37, _⟩ => ⟨S2048x1x1, .i1⟩
  | .hbm, ⟨38, _⟩ => ⟨S2048x1x1, .i1⟩
  | .hbm, ⟨39, _⟩ => ⟨S_, .i1⟩
  | .hbm, ⟨40, _⟩ => ⟨S2048x1, .i1⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x1, .i32⟩
  | .hbm, ⟨46, _⟩ => ⟨S_, .i32⟩
  | .hbm, ⟨47, _⟩ => ⟨S2048x1, .i32⟩
  | .hbm, ⟨48, _⟩ => ⟨S2048x1, .i1⟩
  | .hbm, ⟨49, _⟩ => ⟨S_, .i32⟩
  | .hbm, ⟨50, _⟩ => ⟨S2048x1, .i32⟩
  | .hbm, ⟨51, _⟩ => ⟨S2048x1, .i32⟩
  | .hbm, ⟨52, _⟩ => ⟨S2048x1, .i32⟩
  | .hbm, ⟨53, _⟩ => ⟨S2048x1x1, .i32⟩
  | .hbm, ⟨54, _⟩ => ⟨S1, .i32⟩
  | .hbm, ⟨55, _⟩ => ⟨S_, .i32⟩
  | .hbm, ⟨56, _⟩ => ⟨S2048x1x1, .i32⟩
  | .hbm, ⟨57, _⟩ => ⟨S2048x1x1, .i1⟩
  | .hbm, ⟨58, _⟩ => ⟨S1x1x1, .i32⟩
  | .hbm, ⟨59, _⟩ => ⟨S2048x1x1, .i32⟩
  | .hbm, ⟨60, _⟩ => ⟨S2048x1x1, .i1⟩
  | .hbm, ⟨61, _⟩ => ⟨S2048x1x1, .i1⟩
  | .hbm, ⟨62, _⟩ => ⟨S_, .i1⟩
  | .hbm, ⟨63, _⟩ => ⟨S2048x1, .i1⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S2048x1, .f32⟩
  | .hbm, ⟨69, _⟩ => ⟨S16x512x1024, .f32⟩
  | .hbm, ⟨70, _⟩ => ⟨S_, .i32⟩
  | .hbm, ⟨71, _⟩ => ⟨S2048, .i32⟩
  | .hbm, ⟨72, _⟩ => ⟨S2048, .i1⟩
  | .hbm, ⟨73, _⟩ => ⟨S_, .i32⟩
  | .hbm, ⟨74, _⟩ => ⟨S2048, .i32⟩
  | .hbm, ⟨75, _⟩ => ⟨S2048, .i32⟩
  | .hbm, ⟨76, _⟩ => ⟨S2048, .i32⟩
  | .hbm, ⟨77, _⟩ => ⟨S2048x1, .i32⟩
  | .hbm, ⟨78, _⟩ => ⟨S2048x512x1024, .f32⟩
  | .hbm, ⟨79, _⟩ => ⟨S2048x1024, .f32⟩
  | .hbm, ⟨80, _⟩ => ⟨S_, .i32⟩
  | .hbm, ⟨81, _⟩ => ⟨S2048, .i32⟩
  | .hbm, ⟨82, _⟩ => ⟨S2048, .i1⟩
  | .hbm, ⟨83, _⟩ => ⟨S_, .i32⟩
  | .hbm, ⟨84, _⟩ => ⟨S2048, .i32⟩
  | .hbm, ⟨85, _⟩ => ⟨S2048, .i32⟩
  | .hbm, ⟨86, _⟩ => ⟨S2048, .i32⟩
  | .hbm, ⟨87, _⟩ => ⟨S2048x1, .i32⟩
  | .hbm, ⟨88, _⟩ => ⟨S2048x512x1024, .f32⟩
  | .hbm, ⟨89, _⟩ => ⟨S2048x1024, .f32⟩
  | .hbm, ⟨90, _⟩ => ⟨S2048x1, .f32⟩
  | .hbm, ⟨91, _⟩ => ⟨S2048x1024, .f32⟩
  | .hbm, ⟨92, _⟩ => ⟨S2048x1024, .f32⟩
  | .hbm, ⟨93, _⟩ => ⟨S2048x1, .f32⟩
  | .hbm, ⟨94, _⟩ => ⟨S2048x1024, .f32⟩
  | .hbm, ⟨95, _⟩ => ⟨S2048x1024, .f32⟩
  | .hbm, ⟨96, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v17 : Ref sig .tc := ⟨.hbm, 44, rfl⟩
abbrev main_v18 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_c : Ref sig .tc := ⟨.hbm, 70, rfl⟩
abbrev main_v22 : Ref sig .tc := ⟨.hbm, 71, rfl⟩
abbrev main_v23 : Ref sig .tc := ⟨.hbm, 72, rfl⟩
abbrev main_c_1 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_c_2 : Ref sig .tc := ⟨.hbm, 80, rfl⟩
abbrev main_v30 : Ref sig .tc := ⟨.hbm, 81, rfl⟩
abbrev main_v31 : Ref sig .tc := ⟨.hbm, 82, rfl⟩
abbrev main_c_3 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩

abbrev nD : Nat := 1
abbrev τ : Topo := Topo.v7x

variable {F : FTy → Type} [FloatOps F]
-- ==== Proof.KernelIdeal.Cells.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Memref
public import Idealize.ShloMosaic.Lib.Pipeline.Launch
public import Idealize.ShloMosaic.Lib.Pipeline.Kit
public import Idealize.ShloMosaic.Lib.Pipeline.Value

/-! # The two rings: neighbours, channels, semaphores and buffer slots

Device `c` runs two rings at once. Direction `false` sends to `nxt c` and moves columns 0–511, direction
`true` sends to `prv c` and moves columns 512–1023. Each direction makes six hops, so there are twelve
channels: channel `x` is hop `x % 6` of direction `x / 6`. A channel has one send semaphore on the device
that starts the copy and one receive semaphore on the device it lands on. -/

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.Sem

variable {F : FTy → Type} [FloatOps F]

/-! ## Neighbours -/

set_option backward.proofsInPublic true in
/-- The next device of the ring. -/
def nxt (c : Dev nD) : Dev nD := ⟨(c.val + 1) % 4, Nat.mod_lt _ (by decide)⟩
set_option backward.proofsInPublic true in
/-- The previous device of the ring. -/
def prv (c : Dev nD) : Dev nD := ⟨(c.val + 3) % 4, Nat.mod_lt _ (by decide)⟩
set_option backward.proofsInPublic true in
/-- The device opposite. -/
def opp (c : Dev nD) : Dev nD := ⟨(c.val + 2) % 4, Nat.mod_lt _ (by decide)⟩

theorem prv_nxt (c : Dev nD) : prv (nxt c) = c := by revert c; decide
theorem nxt_prv (c : Dev nD) : nxt (prv c) = c := by revert c; decide
theorem nxt_nxt (c : Dev nD) : nxt (nxt c) = opp c := by revert c; decide
theorem prv_prv (c : Dev nD) : prv (prv c) = opp c := by revert c; decide
theorem nxt_opp (c : Dev nD) : nxt (opp c) = prv c := by revert c; decide
theorem prv_opp (c : Dev nD) : prv (opp c) = nxt c := by revert c; decide
theorem nxt_ne_prv (c : Dev nD) : nxt c ≠ prv c := by revert c; decide
theorem nxt_ne (c : Dev nD) : nxt c ≠ c := by revert c; decide
theorem prv_ne (c : Dev nD) : prv c ≠ c := by revert c; decide
theorem opp_ne (c : Dev nD) : opp c ≠ c := by revert c; decide
theorem opp_ne_nxt (c : Dev nD) : opp c ≠ nxt c := by revert c; decide
theorem opp_ne_prv (c : Dev nD) : opp c ≠ prv c := by revert c; decide
/-- The four devices as seen from `c`. -/
theorem dev_cases (c k : Dev nD) : k = c ∨ k = nxt c ∨ k = opp c ∨ k = prv c := by revert c k; decide

/-- Where direction `d` sends to from `c`. -/
def fwd (d : Bool) (c : Dev nD) : Dev nD := if d then prv c else nxt c
/-- Where what lands on `c` in direction `d` comes from. -/
def bwd (d : Bool) (c : Dev nD) : Dev nD := if d then nxt c else prv c

theorem bwd_fwd (d : Bool) (c : Dev nD) : bwd d (fwd d c) = c := by revert d c; decide
theorem fwd_bwd (d : Bool) (c : Dev nD) : fwd d (bwd d c) = c := by revert d c; decide

/-- Direction `d`'s ring as a permutation of the devices. -/
def ring (d : Bool) : Dev nD ≃ Dev nD := ⟨fwd d, bwd d, bwd_fwd d, fwd_bwd d⟩

/-! ## Channels -/

set_option backward.proofsInPublic true in
/-- The hop of a channel. -/
def hopOf (x : Fin 12) : Fin 6 := ⟨x.val % 6, Nat.mod_lt _ (by decide)⟩
/-- The direction of a channel. -/
def dirOf (x : Fin 12) : Bool := decide (6 ≤ x.val)

/-- The landing buffer of a direction: six slots of 512 × 512. -/
def rBuf : Bool → Memref sig .tc .vmem S6x512x512 .bf16
  | false => Memref.whole cc0_scratch2
  | true => Memref.whole cc0_scratch3
/-- The buffer a direction's first four hops send out of: four slots. -/
def sBuf : Bool → Memref sig .tc .vmem S4x512x512 .bf16
  | false => Memref.whole cc0_scratch0
  | true => Memref.whole cc0_scratch1

theorem inb6 (h : Fin 6) : ∀ a, (![h.val, 0, 0] : Fin 3 → Nat) a + S1x512x512.size a ≤ S6x512x512.size a := by revert h; decide
theorem inb4 (h : Fin 4) : ∀ a, (![h.val, 0, 0] : Fin 3 → Nat) a + S1x512x512.size a ≤ S4x512x512.size a := by revert h; decide

/-- Slot `h` of a six-slot buffer. -/
def slot6 (M : Memref sig .tc .vmem S6x512x512 .bf16) (h : Fin 6) : Memref sig .tc .vmem S512x512 .bf16 :=
  (M.slice (Rect.unit (s := S6x512x512) ![h.val, 0, 0] S1x512x512.size (inb6 h)) (fun _ => rfl)).squeeze S512x512 squeezes_S1x512x512_S512x512
/-- Slot `h` of a four-slot buffer. -/
def slot4 (M : Memref sig .tc .vmem S4x512x512 .bf16) (h : Fin 4) : Memref sig .tc .vmem S512x512 .bf16 :=
  (M.slice (Rect.unit (s := S4x512x512) ![h.val, 0, 0] S1x512x512.size (inb4 h)) (fun _ => rfl)).squeeze S512x512 squeezes_S1x512x512_S512x512

/-- The slot channel `x` lands in. -/
def rM (x : Fin 12) : Memref sig .tc .vmem S512x512 .bf16 := slot6 (rBuf (dirOf x)) (hopOf x)

set_option backward.proofsInPublic true in
/-- The slot channel `x` sends out of: a slot of the send buffer for the first four hops, then the slot the hop before landed in. -/
def sM (x : Fin 12) : Memref sig .tc .vmem S512x512 .bf16 :=
  if h : x.val % 6 < 4 then slot4 (sBuf (dirOf x)) ⟨x.val % 6, h⟩
  else slot6 (rBuf (dirOf x)) ⟨x.val % 6 - 1, by omega⟩

/-- The share of its source a channel's copy holds while in flight: all of a send slot, half of a landing slot, whose other
    half the device keeps to read it meanwhile. -/
def qs (x : Fin 12) : PosShare TreeShare := if x.val % 6 < 4 then fullShare else PosShare.left fullShare

set_option backward.proofsInPublic true in
/-- Channel `x`'s send semaphore. -/
def sndS (x : Fin 12) : DmaSem sig := ⟨5 + x.val, by have := x.isLt; show 5 + x.val < 29; omega⟩
set_option backward.proofsInPublic true in
/-- Channel `x`'s receive semaphore. -/
def rcvS (x : Fin 12) : DmaSem sig := ⟨17 + x.val, by have := x.isLt; show 17 + x.val < 29; omega⟩
/-- The barrier semaphore. -/
abbrev barS : Sem sig := (SemArray.scalar (sig.barrier 0 rfl) : Sems sig S_).sem

abbrev barCell (c : Dev nD) : GSem nD τ sig := ((c : Thread nD τ), .reg barS)
abbrev sndCell (x : Fin 12) (c : Dev nD) : GSem nD τ sig := ((c : Thread nD τ), .dma (sndS x))
abbrev rcvCell (x : Fin 12) (c : Dev nD) : GSem nD τ sig := ((c : Thread nD τ), .dma (rcvS x))

/-- Where channel `x` sends to from `c`, and where it comes from. -/
abbrev dst (x : Fin 12) (c : Dev nD) : Dev nD := fwd (dirOf x) c
abbrev org (x : Fin 12) (c : Dev nD) : Dev nD := bwd (dirOf x) c

set_option backward.proofsInPublic true in
/-- The kernel's own semaphores: the twelve send semaphores, then the twelve receive semaphores. -/
def osem (i : Fin 24) : SemLoc sig := .dma ⟨5 + i.val, by have := i.isLt; show 5 + i.val < 29; omega⟩

/-- All the semaphores of the exchange, by key: the barrier (0), the sends (from 1), the receives (from 13). -/
abbrev Key : Type := Fin 25
set_option backward.proofsInPublic true in
def kSnd (x : Fin 12) : Key := ⟨1 + x.val, by have := x.isLt; omega⟩
set_option backward.proofsInPublic true in
def kRcv (x : Fin 12) : Key := ⟨13 + x.val, by have := x.isLt; omega⟩

set_option backward.proofsInPublic true in
/-- The semaphore of a key. -/
def csem (k : Key) : SemLoc sig := if k.val = 0 then .reg barS else .dma ⟨4 + k.val, by have := k.isLt; show 4 + k.val < 29; omega⟩
theorem csem_bar : csem 0 = .reg barS := rfl
theorem csem_snd (x : Fin 12) : csem (kSnd x) = .dma (sndS x) := by revert x; decide
theorem csem_rcv (x : Fin 12) : csem (kRcv x) = .dma (rcvS x) := by revert x; decide

/-- The cell of a key on a device. -/
abbrev kcell (ck : Dev nD × Key) : GSem nD τ sig := ((ck.1 : Thread nD τ), csem ck.2)

/-- The credit of one 512 × 512 bf16 copy. -/
def N : ℕ := (rM 0).view.dmaCredit
theorem N_eq (x : Fin 12) : (rM x).view.dmaCredit = N := by revert x; decide
theorem N_eq' (x : Fin 12) : (sM x).view.dmaCredit = N := by revert x; decide
theorem N_pos : 0 < N := View.dmaCredit_pos _ (by decide)

theorem csem_inj : ∀ k k' : Key, csem k = csem k' → k = k' := by decide
theorem kcell_injective : Function.Injective kcell := by
  rintro ⟨c, k⟩ ⟨c', k'⟩ h
  have h1 := Prod.ext_iff.mp h
  have hc : c = c' := congrArg (fun t : Thread nD τ => t.1) h1.1
  have hk : k = k' := csem_inj k k' h1.2
  rw [hc, hk]

end Cert.KernelIdealRun

end
-- ==== Proof.KernelIdeal.Contents.lean ====
module

public import proofs.«01_k».proof.Proof.KernelIdeal.Cells
public import Idealize.ShloMosaic.Lib.ValueIdxCore

/-! # What the arrays hold

Contents only, no program logic: the chunk a device computes, the running sums of the reduce-scatter, the message
each channel carries, and the tiles of the result. -/

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The staged inputs -/

/-- The token block as staged on device `c`. -/
def xS (c : Dev nD) : S2048x512.Idx → Elt F .bf16 := (win0_0.blk (0 : Fin 1)).view.read (Elt F) ((s₀ m ρ).mem ((c : Thread nD τ).loc main_arg0))
/-- The router weights as staged on device `c`. -/
def wS (c : Dev nD) : S512x16.Idx → Elt F .bf16 := (win0_1.blk (0 : Fin 1)).view.read (Elt F) ((s₀ m ρ).mem ((c : Thread nD τ).loc main_arg1))
/-- The routing indices as staged on device `c`. -/
def iS (c : Dev nD) : S2048x2.Idx → Elt F .i32 := (win0_2.blk (0 : Fin 1)).view.read (Elt F) ((s₀ m ρ).mem ((c : Thread nD τ).loc main_arg2))
/-- The expert weights as staged on device `c`. -/
def eS (c : Dev nD) : S4x512x1024.Idx → Elt F .bf16 := (win0_3.blk (0 : Fin 1)).view.read (Elt F) ((s₀ m ρ).mem ((c : Thread nD τ).loc main_arg3))

/-! ## Rows of the inputs -/

/-- Row `r` of chunk `k`, as a row of the whole array. -/
def rowIx (k : Dev nD) (r : Fin 512) : Fin 2048 := ⟨512 * k.val + r.val, by have := k.isLt; have := r.isLt; simp only [nD] at *; omega⟩
/-- Column `j` of half `d`, as a column of the whole array. -/
def colIx (d : Bool) (j : Fin 512) : Fin 1024 := ⟨(if d then 512 else 0) + j.val, by have := j.isLt; split <;> omega⟩

/-- Chunk `k` of the tokens. -/
def xRows (c k : Dev nD) : Vec F S512x512 .bf16 := fun i => xS m ρ c (ValueIdx.ix2 (rowIx k (i 0)) (i 1))
/-- Chunk `k` of column `e` of the routing indices. -/
def iRows (c k : Dev nD) (e : Fin 2) : Vec F S512x1 .i32 := fun i => iS m ρ c (ValueIdx.ix2 (rowIx k (i 0)) e)

/-! ## One chunk -/

/-- The device number as the kernel computes it. -/
def idWord (c : Dev nD) : BitVec 32 := Scalar.remsi (Scalar.divsi (Dev.word c) 1#32) 4#32

/-- What device number `v2` computes from a chunk of tokens `x`, the router weights `w`, the two columns of routing
    indices and its four experts' weights. -/
def chunk (v2 : BitVec 32) (x : Vec F S512x512 .bf16) (w : Vec F S512x16 .bf16) (i0 i1 : Vec F S512x1 .i32) (e : Vec F S4x512x1024 .bf16) :
    FVec F S512x1024 .f32 :=
  let v15 : IVec S1x16 32 := iota .tc S1x16 32 [1] iota_S1x16_d1_w32
  let v14 := k0_pay1 e
  let v24 := k0_pay2 x
  let v27 := k0_pay3 x w
  let v30 := k0_pay4 i0
  let v33 := k0_pay5 i1
  let v53 := k0_pay6 v15 v27 i0 i1
  let v55 := k0_pay7 v15 v27 i0 i1
  k0_pay13 v14 v24 v33 v55
    (k0_pay11 v2 v14 v24 v30 v33 v53 v55 (k0_pay8 (F := F)) (k0_pay9 v2 v15 v24 v27 i0 i1) (k0_pay10 v14))
    (Scalar.addi (Scalar.muli v2 4#32) 3#32) (k0_pay12 v2 v30 v53)

section Forms
variable (v2 : BitVec 32) (x : Vec F S512x512 .bf16) (w : Vec F S512x16 .bf16) (i0 i1 : Vec F S512x1 .i32) (e : Vec F S4x512x1024 .bf16)

/-- The second chunk's operations are the first's. -/
theorem chunk_form2 :
    k0_pay21 v2 (k0_pay1 e) (k0_pay14 x) (k0_pay15 i0) (k0_pay16 i1)
      (k0_pay18 (k0_pay17 (iota .tc S1x16 32 [1] iota_S1x16_d1_w32) x w i0 i1) (Scalar.ofBits .f32 0x3F800000#32))
      (k0_pay19 (k0_pay17 (iota .tc S1x16 32 [1] iota_S1x16_d1_w32) x w i0 i1) (Scalar.ofBits .f32 0x3F800000#32))
      (k0_pay20 v2 (k0_pay1 e) (k0_pay14 x) (k0_pay15 i0) (k0_pay16 i1)
        (k0_pay17 (iota .tc S1x16 32 [1] iota_S1x16_d1_w32) x w i0 i1) (Scalar.ofBits .f32 0x3F800000#32))
      (Scalar.muli v2 4#32) = chunk v2 x w i0 i1 e := rfl

/-- The third chunk's operations are the first's. -/
theorem chunk_form3 :
    k0_pay31 v2 (k0_pay1 e) (k0_pay24 x) (k0_pay25 i0) (k0_pay26 i1)
      (k0_pay28 (k0_pay27 (iota .tc S1x16 32 [1] iota_S1x16_d1_w32) x w i0 i1))
      (k0_pay29 (k0_pay27 (iota .tc S1x16 32 [1] iota_S1x16_d1_w32) x w i0 i1))
      (k0_pay30 v2 (k0_pay1 e) (k0_pay24 x) (k0_pay25 i0) (k0_pay26 i1)
        (k0_pay27 (iota .tc S1x16 32 [1] iota_S1x16_d1_w32) x w i0 i1)) 4#32 = chunk v2 x w i0 i1 e := rfl

/-- The fourth chunk's operations are the first's. -/
theorem chunk_form4 :
    k0_pay41 (k0_pay1 e) (k0_pay32 x) (k0_pay34 i1)
      (k0_pay35 (iota .tc S1x16 32 [1] iota_S1x16_d1_w32) (k0_pay32 x) w i0 i1)
      (k0_pay36 (iota .tc S1x16 32 [1] iota_S1x16_d1_w32) (k0_pay32 x) w i0 i1)
      (k0_pay39 v2 (k0_pay1 e) (k0_pay32 x) (k0_pay33 i0) (k0_pay34 i1)
        (k0_pay35 (iota .tc S1x16 32 [1] iota_S1x16_d1_w32) (k0_pay32 x) w i0 i1)
        (k0_pay36 (iota .tc S1x16 32 [1] iota_S1x16_d1_w32) (k0_pay32 x) w i0 i1) (k0_pay37 (F := F))
        (k0_pay38 v2 (iota .tc S1x16 32 [1] iota_S1x16_d1_w32) (k0_pay32 x) w i0 i1))
      (Scalar.addi (Scalar.muli v2 4#32) 3#32) (k0_pay40 v2 (k0_pay33 i0)) = chunk v2 x w i0 i1 e := rfl
end Forms

/-- What device `c` computes for chunk `k`: its own experts' share of the result's rows of that chunk. -/
def part (c k : Dev nD) : FVec F S512x1024 .f32 :=
  chunk (idWord c) (xRows m ρ c k) (wS m ρ c) (iRows m ρ c k 0) (iRows m ρ c k 1) (eS m ρ c)

/-! ## Tiles -/

/-- One 512 × 512 tile. -/
abbrev Tile (F : FTy → Type) : Type := S512x512.Idx → Elt F .f32

/-- Half `d` of a chunk's columns. -/
def half (v : S512x1024.Idx → Elt F .f32) (d : Bool) : Tile F := fun i => v (ValueIdx.ix2 (i 0) (colIx d (i 1)))

/-- The result array put together from its eight tiles: chunk and half. -/
def asm (T : Dev nD → Bool → Tile F) : S2048x1024.Idx → Elt F .f32 := fun i =>
  T ⟨(i 0).val / 512, by have : (i 0).val < 2048 := (i 0).isLt; simp only [nD]; omega⟩ (decide (512 ≤ (i 1).val))
    (ValueIdx.ix2 ⟨(i 0).val % 512, Nat.mod_lt _ (by decide)⟩ ⟨(i 1).val % 512, Nat.mod_lt _ (by decide)⟩)

/-- The tiles of an array. -/
def tiles (f : S2048x1024.Idx → Elt F .f32) : Dev nD → Bool → Tile F := fun k d i => f (ValueIdx.ix2 (rowIx k (i 0)) (colIx d (i 1)))

/-- Tile `(k, d)` replaced. -/
def setTile (T : Dev nD → Bool → Tile F) (k : Dev nD) (d : Bool) (w : Tile F) : Dev nD → Bool → Tile F :=
  fun k' d' => if k' = k ∧ d' = d then w else T k' d'
/-- Both tiles of chunk `k` replaced. -/
def setChunk (T : Dev nD → Bool → Tile F) (k : Dev nD) (w : S512x1024.Idx → Elt F .f32) : Dev nD → Bool → Tile F :=
  fun k' d' => if k' = k then half w d' else T k' d'

theorem asm_tiles (f : S2048x1024.Idx → Elt F .f32) : asm (tiles f) = f := by
  funext i
  unfold asm tiles
  congr 1
  funext a
  have h0 : (i 0).val < 2048 := (i 0).isLt
  have h1 : (i 1).val < 1024 := (i 1).isLt
  fin_cases a
  · apply Fin.ext; show 512 * ((i 0).val / 512) + (i 0).val % 512 = (i 0).val; omega
  · apply Fin.ext
    show (if decide (512 ≤ (i 1).val) = true then 512 else 0) + (i 1).val % 512 = (i 1).val
    simp only [decide_eq_true_eq]; split <;> omega

theorem asm_at (T : Dev nD → Bool → Tile F) (k : Dev nD) (d : Bool) (j : S512x512.Idx) (i : S2048x1024.Idx)
    (h0 : (i 0).val = 512 * k.val + (j 0).val) (h1 : (i 1).val = (if d then 512 else 0) + (j 1).val) : asm T i = T k d j := by
  have hj0 : (j 0).val < 512 := (j 0).isLt
  have hj1 : (j 1).val < 512 := (j 1).isLt
  unfold asm
  have e1 : (⟨(i 0).val / 512, by have : (i 0).val < 2048 := (i 0).isLt; simp only [nD]; omega⟩ : Dev nD) = k := Fin.ext (by show (i 0).val / 512 = _; omega)
  have e2 : decide (512 ≤ (i 1).val) = d := by cases d <;> simp at h1 ⊢ <;> omega
  rw [e1, e2]
  congr 1
  funext a
  fin_cases a
  · apply Fin.ext; show (i 0).val % 512 = (j 0).val; omega
  · apply Fin.ext; show (i 1).val % 512 = (j 1).val; rw [h1]; split <;> omega

/-! ## The running sums and the messages -/

/-- `addf` of a tile and a widened bf16 tile. -/
def plus (a : Tile F) (b : S512x512.Idx → Elt F .bf16) : Tile F := addf (s := S512x512) (φ := .f32) a (extf .f32 b bitsLt_bf16_f32)

/-- Rounding a tile to bf16. -/
def rnd (a : Tile F) : S512x512.Idx → Elt F .bf16 := truncf .bf16 a bitsLt_bf16_f32
/-- Widening a bf16 tile. -/
def wid (a : S512x512.Idx → Elt F .bf16) : Tile F := extf .f32 a bitsLt_bf16_f32

/-- The chunk device `c` works on at hop `h` of direction `d`: the one `h + 1` steps behind it. -/
def chunkAt (d : Bool) : ℕ → Dev nD → Dev nD
  | 0, c => bwd d c
  | h + 1, c => bwd d (chunkAt d h c)

/-- The running sum device `c` has at hop `h` of direction `d`: its own share of the chunk, plus what arrived. -/
def red (d : Bool) : ℕ → Dev nD → Tile F
  | 0, c => half (part m ρ c (chunkAt d 0 c)) d
  | h + 1, c => plus (half (part m ρ c (chunkAt d (h + 1) c)) d) (rnd (red d h (bwd d c)))

/-- The message device `c` sends at hop `h` of direction `d`: the rounded running sum for the first four hops, then the
    finished chunk that arrived at the hop before. -/
def msg (d : Bool) : ℕ → Dev nD → S512x512.Idx → Elt F .bf16
  | 0, c => rnd (red m ρ d 0 c)
  | 1, c => rnd (red m ρ d 1 c)
  | 2, c => rnd (red m ρ d 2 c)
  | 3, c => rnd (red m ρ d 3 c)
  | h + 4, c => msg d (h + 3) (bwd d c)

/-- What the result array holds on device `c` at the end: its own chunk as summed, the others as they arrived. -/
def fin (c : Dev nD) : Dev nD → Bool → Tile F := fun k d => if k = c then red m ρ d 3 c else wid (msg m ρ d 3 k)

/-- The result array on device `c`. -/
def outA (c : Dev nD) : S2048x1024.Idx → Elt F .f32 := asm (fin m ρ c)

end Cert.KernelIdealRun

end
-- ==== Proof.KernelIdeal.Sched.lean ====
module

public import proofs.«01_k».proof.Proof.KernelIdeal.Contents
public import Idealize.ShloMosaic.Lib.Rounds

/-! # The schedule of the exchange

One round. A barrier cell is paid one unit by each neighbour, and each unit hands over the neighbour's six landing slots
of the direction that lands there. A send cell is paid when its copy has left: it gives back the source. A receive cell
is paid when the copy has landed: it gives the slot holding the sender's message. -/

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own copy and the exchange's. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- Device `c` holds share `q` of a slot, and the slot reads `v`. -/
abbrev has (c : Dev nD) (M : Memref sig .tc .vmem S512x512 .bf16) (q : PosShare TreeShare) (v : S512x512.Idx → Elt F .bf16) : sProp 𝕄 :=
  owns (Ix := Unit) (Name := ℕ) (U := UU) (Lvl := ℕ) (c : Thread nD τ) M q v

/-- The message of channel `x` sent by device `c`. -/
abbrev out (x : Fin 12) (c : Dev nD) : S512x512.Idx → Elt F .bf16 := msg m ρ (dirOf x) (hopOf x).val c
/-- The message of channel `x` landing on device `c`. -/
abbrev inn (x : Fin 12) (c : Dev nD) : S512x512.Idx → Elt F .bf16 := out m ρ x (org x c)

/-- The six landing slots of direction `d` on a device, at any contents. -/
def slots (d : Bool) (c : Dev nD) : sProp 𝕄 :=
  bigSep (Finset.univ : Finset (Fin 6)) fun h => iprop(∃ v : S512x512.Idx → Elt F .bf16, has c (slot6 (rBuf d) h) fullShare v)
/-- What the barrier unit `d` hands device `c`: the slots its direction `d` copies land in. -/
def barPay (d : Bool) (c : Dev nD) : sProp 𝕄 := slots (F := F) d (fwd d c)
/-- What a finished send hands back. -/
def sndPay (x : Fin 12) (c : Dev nD) : sProp 𝕄 := has c (sM x) (qs x) (out m ρ x c)
/-- What a landing hands over. -/
def rcvPay (x : Fin 12) (c : Dev nD) : sProp 𝕄 := has c (rM x) fullShare (inn m ρ x c)

instance slots_storable (d : Bool) (c : Dev nD) : BI.Storable (upEmb : UEmb _ 𝕄) (slots (F := F) d c) := by unfold slots; infer_instance
instance barPay_storable (d : Bool) (c : Dev nD) : BI.Storable (upEmb : UEmb _ 𝕄) (barPay (F := F) d c) := by unfold barPay; infer_instance
instance sndPay_storable (x : Fin 12) (c : Dev nD) : BI.Storable (upEmb : UEmb _ 𝕄) (sndPay (F := F) m ρ x c) := by unfold sndPay; infer_instance
instance rcvPay_storable (x : Fin 12) (c : Dev nD) : BI.Storable (upEmb : UEmb _ 𝕄) (rcvPay (F := F) m ρ x c) := by unfold rcvPay; infer_instance

/-- The duties of a semaphore: two on the barrier, one on each of the exchange's transfers. -/
def dutiesOf : SemLoc sig → Finset Bool
  | .reg _ => Finset.univ
  | .dma s => if 5 ≤ s.val then {false} else ∅
/-- The units of a semaphore's duty. -/
def amountOf : SemLoc sig → ℕ
  | .reg _ => 1
  | .dma _ => N
/-- What a semaphore's duty hands over on device `c`. -/
def payOf (c : Dev nD) (d : Bool) : SemLoc sig → sProp 𝕄
  | .reg _ => barPay (F := F) d c
  | .dma s => if h : 5 ≤ s.val ∧ s.val < 17 then sndPay m ρ ⟨s.val - 5, by omega⟩ c
    else if h : 17 ≤ s.val then rcvPay m ρ ⟨s.val - 17, by have : s.val < 29 := s.isLt; omega⟩ c else iprop(emp)

/-- The schedule: everything happens in round 0. -/
def Rd : Rounds.Schedule (GSem nD τ sig) Bool 𝕄 where
  duties g r := if r = 0 ∧ g.1.2 = .tc then dutiesOf g.2 else ∅
  unitless _ := False
  amount g _ _ := amountOf g.2
  payload g _ d := payOf m ρ g.1.1 d g.2
  amount_pos g _ _ _ := by
    cases h : g.2 with
    | reg s => exact Nat.one_pos
    | dma s => exact N_pos

instance Rd_payload_storable (g : GSem nD τ sig) (r : ℕ) (d : Bool) : BI.Storable (upEmb : UEmb _ 𝕄) ((Rd (F := F) m ρ).payload g r d) := by
  show BI.Storable upEmb (payOf m ρ g.1.1 d g.2)
  unfold payOf
  split
  · infer_instance
  · (repeat' split) <;> infer_instance

section Facts
variable (x : Fin 12) (c : Dev nD)

theorem duties_bar : (Rd (F := F) m ρ).duties (barCell c) 0 = Finset.univ := by dsimp only [Rd]; exact if_pos ⟨rfl, rfl⟩
theorem duties_snd : (Rd (F := F) m ρ).duties (sndCell x c) 0 = {false} := by
  dsimp only [Rd]; rw [if_pos ⟨rfl, rfl⟩]; exact if_pos (by show 5 ≤ 5 + x.val; omega)
theorem duties_rcv : (Rd (F := F) m ρ).duties (rcvCell x c) 0 = {false} := by
  dsimp only [Rd]; rw [if_pos ⟨rfl, rfl⟩]; exact if_pos (by show 5 ≤ 17 + x.val; omega)
theorem duties_later (g : GSem nD τ sig) : ∀ r, 1 ≤ r → (Rd (F := F) m ρ).duties g r = ∅ :=
  fun r hr => by dsimp only [Rd]; exact if_neg fun h => by omega

theorem expect_bar : (Rd (F := F) m ρ).expect (barCell c) 0 = 2 := by
  unfold Schedule.expect Schedule.amountOf
  rw [duties_bar]; rfl
theorem expect_snd : (Rd (F := F) m ρ).expect (sndCell x c) 0 = N := by
  unfold Schedule.expect Schedule.amountOf; rw [duties_snd, Finset.sum_singleton]; rfl
theorem expect_rcv : (Rd (F := F) m ρ).expect (rcvCell x c) 0 = N := by
  unfold Schedule.expect Schedule.amountOf; rw [duties_rcv, Finset.sum_singleton]; rfl

theorem payload_bar (d : Bool) : (Rd (F := F) m ρ).payload (barCell c) 0 d = barPay d c := rfl
theorem payload_snd (d : Bool) : (Rd (F := F) m ρ).payload (sndCell x c) 0 d = sndPay m ρ x c := by
  show dite _ _ _ = _
  rw [dif_pos (by constructor <;> (show _; simp only [sndS]; omega))]
  congr 1
  exact Fin.ext (by simp [sndS])
theorem payload_rcv (d : Bool) : (Rd (F := F) m ρ).payload (rcvCell x c) 0 d = rcvPay m ρ x c := by
  show dite _ _ _ = _
  rw [dif_neg (by simp only [rcvS]; omega), dif_pos (by simp only [rcvS]; omega)]
  congr 1
  exact Fin.ext (by simp [rcvS])

/-- All of the barrier's payloads. -/
theorem rest_bar : bigSep ((Rd (F := F) m ρ).duties (barCell c) 0 \ ∅) (fun d => (Rd (F := F) m ρ).payload (barCell c) 0 d) = iprop(barPay false c ∗ barPay true c) := by
  rw [Finset.sdiff_empty, duties_bar, bigSep_univ_eq_bigSepL [false, true] (by decide) (by decide), bigSepL_cons_cons, bigSepL_singleton,
    payload_bar, payload_bar]
  rfl
theorem rest_snd : bigSep ((Rd (F := F) m ρ).duties (sndCell x c) 0 \ ∅) (fun d => (Rd (F := F) m ρ).payload (sndCell x c) 0 d) = sndPay m ρ x c := by
  rw [Finset.sdiff_empty, duties_snd, bigSep_singleton, payload_snd]
theorem rest_rcv : bigSep ((Rd (F := F) m ρ).duties (rcvCell x c) 0 \ ∅) (fun d => (Rd (F := F) m ρ).payload (rcvCell x c) 0 d) = rcvPay m ρ x c := by
  rw [Finset.sdiff_empty, duties_rcv, bigSep_singleton, payload_rcv]

end Facts

/-! ## What a device owes; the levels -/

/-- What device `c` owes for the channels of `l` it has still to send on: each one's receive credit. -/
def owedL (c : Dev nD) : List (Fin 12) → CellTallies nD τ sig Unit
  | [] => 0
  | x :: l => owedL c l + tallyAt (rcvCell x (dst x c)) () N

/-- The channels in the order a device sends on them. -/
def order : List (Fin 12) := [0, 6, 1, 7, 2, 8, 3, 9, 4, 10, 5, 11]

/-- What device `c` owes at its barrier's second signal, and at launch. -/
def O₁ (c : Dev nD) : CellTallies nD τ sig Unit := owedL c order + tallyAt (barCell (nxt c)) () 1
def O₀ (c : Dev nD) : CellTallies nD τ sig Unit := O₁ c + tallyAt (barCell (prv c)) () 1

def L (g : GSem nD τ sig) : Finset Unit := if g.1.2 = .tc then {()} else ∅
/-- The level of a semaphore: the barrier at 1, the receives above it in sending order, everything else at 0. -/
def lvOf : SemLoc sig → ℕ
  | .reg _ => 1
  | .dma s => if 17 ≤ s.val then 2 + (2 * ((s.val - 17) % 6) + (s.val - 17) / 6) else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem owedL_pos {c : Dev nD} {l : List (Fin 12)} {g : GSem nD τ sig} {u : Unit} (h : 0 < owedL c l g u) :
    ∃ x ∈ l, g = rcvCell x (dst x c) := by
  induction l with
  | nil => exact absurd h (Nat.lt_irrefl 0)
  | cons x l ih =>
    unfold owedL at h
    rw [Pi.add_apply, Finsupp.add_apply, tallyAt_apply] at h
    by_cases hx : g = rcvCell x (dst x c) ∧ u = ()
    · exact ⟨x, List.mem_cons_self, hx.1⟩
    · rw [if_neg hx, Nat.add_zero] at h
      obtain ⟨y, hy, e⟩ := ih h
      exact ⟨y, List.mem_cons_of_mem _ hy, e⟩

theorem O₀_pos {c : Dev nD} {g : GSem nD τ sig} {u : Unit} (h : 0 < O₀ c g u) :
    (∃ x, g = rcvCell x (dst x c)) ∨ g = barCell (nxt c) ∨ g = barCell (prv c) := by
  unfold O₀ O₁ at h
  rw [Pi.add_apply, Finsupp.add_apply, Pi.add_apply, Finsupp.add_apply, tallyAt_apply, tallyAt_apply] at h
  by_cases h1 : g = barCell (nxt c) ∧ u = ()
  · exact .inr (.inl h1.1)
  by_cases h2 : g = barCell (prv c) ∧ u = ()
  · exact .inr (.inr h2.1)
  rw [if_neg h1, if_neg h2] at h
  obtain ⟨x, -, e⟩ := owedL_pos (show 0 < owedL c order g u by simpa using h)
  exact .inl ⟨x, e⟩

theorem lv_rcv (x : Fin 12) : lvOf (.dma (rcvS x)) = 2 + (2 * (x.val % 6) + x.val / 6) := by revert x; decide

/-- Device `c` may wait on a semaphore below every receive it still owes. -/
theorem mayWait_owed (c : Dev nD) (sm : SemLoc sig) (l : List (Fin 12)) (h : ∀ x ∈ l, lvOf sm < lvOf (.dma (rcvS x))) :
    (levAts L lv : sProp 𝕄) ⊢ MayWait (c : Thread nD τ) sm () (owedL c l) :=
  MayOwe.of_cut (L := L) (lev := lv) (lvOf sm) (fun p hp => by rw [Finset.mem_singleton.mp hp, L_tc]; exact Finset.mem_singleton_self _)
    (fun g u hg => by obtain ⟨x, -, rfl⟩ := owedL_pos hg; exact Finset.mem_singleton_self _)
    (fun p hp => by rw [Finset.mem_singleton.mp hp]; exact le_rfl)
    (fun g u hg => by obtain ⟨x, hx, rfl⟩ := owedL_pos hg; exact h x hx)

/-- Device `c` may wait on a staging semaphore owing everything it owes at launch. -/
theorem mayWait_stage (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · have h0 : lvOf (.dma q) = 0 := if_neg (by omega)
    refine MayOwe.of_cut (L := L) (lev := lv) 0 (fun p hp => by rw [Finset.mem_singleton.mp hp, L_tc]; exact Finset.mem_singleton_self _)
      (fun g u hg => by rcases O₀_pos hg with ⟨x, rfl⟩ | rfl | rfl <;> exact Finset.mem_singleton_self _)
      (fun p hp => by rw [Finset.mem_singleton.mp hp]; exact le_of_eq h0)
      (fun g u hg => by
        rcases O₀_pos hg with ⟨x, rfl⟩ | rfl | rfl
        · show 0 < lvOf (.dma (rcvS x)); rw [lv_rcv]; omega
        · exact Nat.one_pos
        · exact Nat.one_pos)
  · rw [MayWait_zero]; iintro -; iempintro

end Cert.KernelIdealRun

end
-- ==== Proof.KernelIdeal.Steps.lean ====
module

public import proofs.«01_k».proof.Proof.KernelIdeal.Sched
public import Idealize.ShloMosaic.Lib.Tactic

/-! # The steps of the body

One lemma per kind of operation the body makes — a copy started, a landing awaited, a send awaited, a slot or a tile read or
written — each for any channel, slot or tile. -/

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `p` on device `c` runs to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program made of two steps. -/
theorem wp_seq (c : Dev nD) {α β : Type} (p : Prog (TpuEff nD τ sig (Elt F) Λ₀ .tc) α) (k : α → Prog (TpuEff nD τ sig (Elt F) Λ₀ .tc) β) (Q : β → sProp 𝕄) :
    WP c p (fun a => WP c (k a) Q) ⊢ WP c (p >>= k) Q := by
  show _ ⊢ wp _ _ _ _ _
  rw [wp_bind]
/-- A program that is done. -/
theorem wp_done (c : Dev nD) {α : Type} (a : α) (Q : α → sProp 𝕄) : Q a ⊢ WP c (.ret a) Q := by
  show _ ⊢ wp _ _ _ _ _
  rw [wp_ret]
  iintro H
  imodintro
  iexact H

/-! ## What a device carries -/

/-- The facts every device knows throughout: every cell's invariant, that every cell has reached round 0, and the levels. -/
def recs (K : Dev nD × Key → ℕ) : sProp 𝕄 :=
  iprop((bigSep (Finset.univ : Finset (Dev nD × Key)) fun ck => cellInv ER (Rd m ρ) (K ck) (kcell ck))
    ∗ (bigSep (Finset.univ : Finset (Dev nD × Key)) fun ck => reached ER (kcell ck) 0) ∗ levAts L lv)

instance recs_persistent (K : Dev nD × Key → ℕ) : BI.Persistent (recs m ρ K) := by unfold recs; infer_instance

theorem kcell_bar (c : Dev nD) : kcell (c, 0) = barCell c := rfl
theorem kcell_snd (x : Fin 12) (c : Dev nD) : kcell (c, kSnd x) = sndCell x c := by show (_, _) = (_, _); rw [csem_snd]
theorem kcell_rcv (x : Fin 12) (c : Dev nD) : kcell (c, kRcv x) = rcvCell x c := by show (_, _) = (_, _); rw [csem_rcv]

theorem inv_at (K : Dev nD × Key → ℕ) (ck : Dev nD × Key) :
    (bigSep (Finset.univ : Finset (Dev nD × Key)) fun ck => (cellInv ER (Rd m ρ) (K ck) (kcell ck) : sProp 𝕄)) ⊢ cellInv ER (Rd m ρ) (K ck) (kcell ck) :=
  bigSep_elim (Finset.mem_univ ck)
theorem reached_at (ck : Dev nD × Key) :
    (bigSep (Finset.univ : Finset (Dev nD × Key)) fun ck => (reached ER (kcell ck) 0 : sProp 𝕄)) ⊢ reached ER (kcell ck) 0 :=
  bigSep_elim (Finset.mem_univ ck)

theorem recs_inv (K : Dev nD × Key → ℕ) (ck : Dev nD × Key) (g : GSem nD τ sig) (h : kcell ck = g) : recs m ρ K ⊢ cellInv ER (Rd m ρ) (K ck) g := by
  subst h
  unfold recs
  iintro ⟨H, -, -⟩
  iapply (inv_at m ρ K ck); iexact H
theorem recs_reached (K : Dev nD × Key → ℕ) (ck : Dev nD × Key) (g : GSem nD τ sig) (h : kcell ck = g) : recs m ρ K ⊢ reached ER g 0 := by
  subst h
  unfold recs
  iintro ⟨-, H, -⟩
  iapply (reached_at (F := F) ck); iexact H
theorem recs_lev (K : Dev nD × Key → ℕ) : recs m ρ K ⊢ levAts L lv := by
  unfold recs; iintro ⟨-, -, H⟩; iexact H

/-- Device `c` owes `O`, whatever it has waited on. -/
def Ow (c : Dev nD) (O : CellTallies nD τ sig Unit) : sProp 𝕄 := iprop(∃ W, owes (c : Thread nD τ) O W)

/-- Channel `x` of device `c` before it is sent on: the two duties of its copy and the position at its send cell. -/
def unsent (x : Fin 12) (c : Dev nD) : sProp 𝕄 :=
  iprop(dutyTok ER (sndCell x c) 0 false ∗ dutyTok ER (rcvCell x (dst x c)) 0 false ∗ atPos ER (sndCell x c) 0 ∅ 0)
/-- Channel `x` of device `c` while its copy is in flight. -/
def flying (x : Fin 12) (c : Dev nD) : sProp 𝕄 := iprop(cred (tallyAt (sndCell x c) () N) ∗ atPos ER (sndCell x c) 0 ∅ 0)
/-- Channel `x` into device `c` before its landing is awaited. -/
def coming (x : Fin 12) (c : Dev nD) : sProp 𝕄 := iprop(cred (tallyAt (rcvCell x c) () N) ∗ atPos ER (rcvCell x c) 0 ∅ 0)
/-- The slot channel `x` of device `c` lands in, on the device it lands on. -/
def target (x : Fin 12) (c : Dev nD) : sProp 𝕄 := iprop(∃ v : S512x512.Idx → Elt F .bf16, has (dst x c) (rM x) fullShare v)

/-! ## Copies and waits -/

/-- A copy started on channel `x`, the next in the order. -/
theorem wp_start (K : Dev nD × Key → ℕ) (x : Fin 12) (l : List (Fin 12)) (c n : Dev nD) (hn : n = dst x c)
    (sm rm : Memref sig .tc .vmem S512x512 .bf16) (ss rs : DmaSem sig) (hsm : sm = sM x) (hrm : rm = rM x) (hss : ss = sndS x) (hrs : rs = rcvS x)
    {hsc : (rm : Memref sig (Dev.tc n : Thread nD τ).2.kind .vmem S512x512 .bf16).view.ref.isScScratch = false}
    {hsrc : sm.view.WordExact} {hdst : rm.view.WordExact}
    {hsem : DmaTarget.Typed .vmem (.dma rs) (.remote (Dev.tc n : Thread nD τ) rm (.dma ss) hsc)}
    {α : Type} {Q : α → sProp 𝕄} {k : PUnit → Prog (TpuEff nD τ sig (Elt F) Λ₀ .tc) α} :
    recs m ρ K ⊢ iprop(unsent x c -∗ target (F := F) x c -∗ has c (sM x) (qs x) (out m ρ x c) -∗ Ow c (owedL c (x :: l))
          -∗ (flying x c -∗ Ow c (owedL c l) -∗ WP c (k ⟨⟩) Q)
          -∗ WP c (.op (.enqueueDma sm (.remote (Dev.tc n : Thread nD τ) rm (.dma ss) hsc) (.dma rs) hsrc hdst hsem) k) Q) := by
  subst hn hsm hrm hss hrs
  unfold unsent target flying Ow has owns
  iintro #HR ⟨Hs, Hr, Hat⟩ ⟨%v, %fd, %hfd, Hd⟩ ⟨%fs, %hfs, Hsrc⟩ ⟨%W, HO⟩ Hk
  ihave #HI1 := (recs_inv m ρ K (c, kSnd x) _ (kcell_snd x c)) $$ HR
  ihave #HI2 := (recs_inv m ρ K (dst x c, kRcv x) _ (kcell_rcv x (dst x c))) $$ HR
  ihave #Hr1 := (recs_reached m ρ K (c, kSnd x) _ (kcell_snd x c)) $$ HR
  ihave #Hr2 := (recs_reached m ρ K (dst x c, kRcv x) _ (kcell_rcv x (dst x c))) $$ HR
  iapply (Rounds.wp_send_pointsTo 𝒱₀ ER (Rd m ρ) (c : Thread nD τ) none (κ₁ := K (c, kSnd x)) (κ₂ := K (dst x c, kRcv x))
    (r₁ := 0) (r₂ := 0) (d₁ := false) (d₂ := false) (fd := fd)
    (by rw [duties_snd]; exact Finset.mem_singleton_self _) (by rw [duties_rcv]; exact Finset.mem_singleton_self _)
    () () N (by exact N_eq x) rfl rfl (owedL c l) rfl (W := W)
    (by
      rw [payload_snd]; unfold sndPay has owns
      iintro H; iexists fs; isplitr
      · ipureintro; exact hfs
      · iexact H)
    (by
      rw [payload_rcv]; unfold rcvPay has owns inn org
      rw [bwd_fwd]
      iintro H; iexists ((rM x).view.write (Elt F) fd ((sM x).view.read (Elt F) fs) Finset.univ); isplitr
      · ipureintro; exact (View.read_write_univ _ _).trans hfs
      · iexact H)) $$ [HO Hs Hr Hd Hsrc]
  · isplitr; · iexact HI1
    isplitr; · iexact HI2
    isplitl [Hsrc]; · iexact Hsrc
    isplitl [Hd]; · iexact Hd
    isplitl [HO]; · iexact HO
    isplitl [Hs]; · iexact Hs
    isplitr; · iexact Hr1
    isplitl [Hr]; · iexact Hr
    iexact Hr2
  iintro ⟨Hc, HO⟩
  iapply Hk $$ [Hc Hat]
  · isplitl [Hc] <;> iassumption
  iexists W; iexact HO

/-- The wait for the landing on channel `x`: the slot holds the message, and the cell is closed. -/
theorem wp_landed (K : Dev nD × Key → ℕ) (x : Fin 12) (l : List (Fin 12)) (c : Dev nD)
    (hl : ∀ y ∈ l, lvOf (.dma (rcvS x)) < lvOf (.dma (rcvS y))) (rs : DmaSem sig) (hrs : rs = rcvS x)
    {s' : Shape} (sm : Memref sig .tc .vmem s' .bf16) (rm : Memref sig .tc .vmem S512x512 .bf16) (hrm : rm = rM x)
    {hsrc : sm.view.WordExact} {hdst : rm.view.WordExact}
    {α : Type} {Q : α → sProp 𝕄} {k : PUnit → Prog (TpuEff nD τ sig (Elt F) Λ₀ .tc) α} :
    recs m ρ K ⊢ iprop(coming x c -∗ Ow c (owedL c l)
          -∗ (semVal (rcvCell x c) 0 -∗ has c (rM x) fullShare (inn m ρ x c) -∗ Ow c (owedL c l) -∗ WP c (k ⟨⟩) Q)
          -∗ WP c (.op (.waitDma2 rs sm rm hsrc hdst) k) Q) := by
  subst hrs hrm
  have hN : (rM x).view.dmaCredit = N := by exact N_eq x
  unfold coming Ow
  iintro #HR ⟨Hc, Hat⟩ ⟨%W, HO⟩ Hk
  ihave #HI := (recs_inv m ρ K (c, kRcv x) _ (kcell_rcv x c)) $$ HR
  ihave #Hlev := (recs_lev m ρ K) $$ HR
  iapply (Rounds.wp_wait_rest_token 𝒱₀ ER (Rd m ρ) (c : Thread nD τ) none (κ := K (c, kRcv x))
      (wpE_waitDma2_eq 𝒱₀ (c : Thread nD τ) none Set.univ) (Set.mem_univ _) () (O := owedL c l) (W := W) (R := 0) (m := 0) (T := ∅)
      (by rw [Nat.zero_add, expect_rcv, hN])) $$ [Hc HO Hat]
  · isplitr; · iexact HI
    isplitl [Hc]; · rw [hN]; iexact Hc
    isplitl [HO]; · iexact HO
    isplitr; · iapply (mayWait_owed c _ l hl); iexact Hlev
    iexact Hat
  iintro ⟨HO, Hat, -, Hp⟩
  ihave Hp := (Entails.of_eq (rest_rcv m ρ x c)) $$ Hp
  imod (Rounds.cell_close ER (Rd m ρ) (Set.mem_univ (K (c, kRcv x))) (fun h => h) (R := 0 + 1) (duties_later m ρ (rcvCell x c))) $$ [Hat] with Hz
  · isplitr; · iexact HI
    iexact Hat
  iapply Hk $$ Hz [Hp]
  · unfold rcvPay; iexact Hp
  iexists _; iexact HO

/-- The wait for the send on channel `x`: the source comes back, and the cell is closed. -/
theorem wp_sent (K : Dev nD × Key → ℕ) (x : Fin 12) (c : Dev nD) (ss : DmaSem sig) (hss : ss = sndS x)
    {s' : Shape} (rm : Memref sig .tc .vmem s' .bf16) (sm : Memref sig .tc .vmem S512x512 .bf16) (hsm : sm = sM x)
    {hsrc : rm.view.WordExact} {hdst : sm.view.WordExact}
    {α : Type} {Q : α → sProp 𝕄} {k : PUnit → Prog (TpuEff nD τ sig (Elt F) Λ₀ .tc) α} :
    recs m ρ K ⊢ iprop(flying x c -∗ Ow c 0
          -∗ (semVal (sndCell x c) 0 -∗ has c (sM x) (qs x) (out m ρ x c) -∗ Ow c 0 -∗ WP c (k ⟨⟩) Q)
          -∗ WP c (.op (.waitDma2 ss rm sm hsrc hdst) k) Q) := by
  subst hss hsm
  have hN : (sM x).view.dmaCredit = N := by exact N_eq' x
  unfold flying Ow
  iintro #HR ⟨Hc, Hat⟩ ⟨%W, HO⟩ Hk
  ihave #HI := (recs_inv m ρ K (c, kSnd x) _ (kcell_snd x c)) $$ HR
  iapply (Rounds.wp_wait_rest_token 𝒱₀ ER (Rd m ρ) (c : Thread nD τ) none (κ := K (c, kSnd x))
      (wpE_waitDma2_eq 𝒱₀ (c : Thread nD τ) none Set.univ) (Set.mem_univ _) () (O := 0) (W := W) (R := 0) (m := 0) (T := ∅)
      (by rw [Nat.zero_add, expect_snd, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hp⟩
  ihave Hp := (Entails.of_eq (rest_snd m ρ x c)) $$ Hp
  imod (Rounds.cell_close ER (Rd m ρ) (Set.mem_univ (K (c, kSnd x))) (fun h => h) (R := 0 + 1) (duties_later m ρ (sndCell x c))) $$ [Hat] with Hz
  · isplitr; · iexact HI
    iexact Hat
  iapply Hk $$ Hz [Hp]
  · unfold sndPay; iexact Hp
  iexists _; iexact HO

/-! ## Slots -/

theorem sc3 : S1x512x512.ShapeCasts S512x512 := shapeCasts_S1x512x512_S512x512

theorem slot_set {s : Shape} (M : Memref sig .tc .vmem s .bf16) (R : Rect s) (hr : ∀ a, R.stride a = 1) (sq : R.shape.Squeezes S512x512) :
    M.view.setOn R.set ⊆ ((M.slice R hr).squeeze S512x512 sq).view.set := by
  simp only [Memref.view_squeeze, View.set_reshape, Memref.view_slice, View.set_slice]
  exact Finset.Subset.refl _
theorem slot_set' {s : Shape} (M : Memref sig .tc .vmem s .bf16) (R : Rect s) (hr : ∀ a, R.stride a = 1) (sq : R.shape.Squeezes S512x512) :
    (M.access R).setOn Finset.univ ⊆ ((M.slice R hr).squeeze S512x512 sq).view.set := by
  simp only [Memref.view_squeeze, View.set_reshape, Memref.view_slice, View.setOn_univ]
  exact Finset.Subset.refl _

section Slot
variable (c : Dev nD) {s : Shape} (M : Memref sig .tc .vmem s .bf16) (R : Rect s) (hr : ∀ a, R.stride a = 1) (sq : R.shape.Squeezes S512x512)

/-- A load of a slot reads a vector whose cast is what the slot holds. -/
theorem wp_load_slot (sc : R.shape.ShapeCasts S512x512) (q : PosShare TreeShare) (v : S512x512.Idx → Elt F .bf16)
    {hl : M.view.LoadsAt R.toLoadRect} {α : Type} {Q : α → sProp 𝕄} {k : (R.shape.Idx → Elt F .bf16) → Prog (TpuEff nD τ sig (Elt F) Λ₀ .tc) α} :
    has c ((M.slice R hr).squeeze S512x512 sq) q v
      ⊢ iprop((∀ u : R.shape.Idx → Elt F .bf16, ⌜shapeCast S512x512 u sc = v⌝ -∗ has c ((M.slice R hr).squeeze S512x512 sq) q v -∗ WP c (k u) Q)
          -∗ WP c (.op (.load M R.toLoadRect hl) k) Q) := by
  unfold has owns
  iintro ⟨%f, %hf, H⟩ Hk
  iapply (wp_load 𝒱₀ (c : Thread nD τ) none Set.univ (m := M) (r := R.toLoadRect) (S := ((M.slice R hr).squeeze S512x512 sq).view.set) (q := q) (f := f)
    (slot_set M R hr sq)) $$ H
  iintro H
  iapply Hk $$ %(M.view.readAt (Elt F) R.toLoadRect f) %((Memref.read_squeeze_slice M R hr sq sc f).symm.trans hf)
  iexists f; isplitr
  · ipureintro; exact hf
  · iexact H

/-- A store to a slot leaves it holding the cast of the vector. -/
theorem wp_store_slot (sc : R.shape.ShapeCasts S512x512) (v : S512x512.Idx → Elt F .bf16) (w : R.shape.Idx → Elt F .bf16)
    {hx : (M.access R).Stores Finset.univ} {hm : Finset.univ = Finset.univ ∨ ∀ a, R.stride a = 1}
    {α : Type} {Q : α → sProp 𝕄} {k : PUnit → Prog (TpuEff nD τ sig (Elt F) Λ₀ .tc) α} :
    has c ((M.slice R hr).squeeze S512x512 sq) fullShare v
      ⊢ iprop((has c ((M.slice R hr).squeeze S512x512 sq) fullShare (shapeCast S512x512 w sc) -∗ WP c (k ⟨⟩) Q)
          -∗ WP c (.op (.store M R w Finset.univ hx hm) k) Q) := by
  unfold has owns
  iintro ⟨%f, %hf, H⟩ Hk
  iapply (wp_store 𝒱₀ (c : Thread nD τ) none Set.univ (m := M) (r := R) (w := w) (Mk := Finset.univ) (S := ((M.slice R hr).squeeze S512x512 sq).view.set) (f := f)
    (slot_set' M R hr sq)) $$ H
  iintro H
  iapply Hk
  iexists ((M.access R).write (Elt F) f w Finset.univ); isplitr
  · ipureintro
    refine (Memref.read_squeeze_slice M R hr sq sc _).trans ?_
    congr 1
    exact View.read_write_univ (v := M.view.slice R) f w
  · iexact H
end Slot

end Cert.KernelIdealRun

end
-- ==== Proof.KernelIdeal.Access.lean ====
module

public import proofs.«01_k».proof.Proof.KernelIdeal.Steps

/-! # Reads and writes of the staged arrays

What a load of a block of an input reads, what a load of a tile of the result reads, and what a store to a tile or to a
whole chunk leaves. -/

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev M0 : Memref sig .tc .vmem S2048x512 .bf16 := Memref.whole cc0_stg0_0
abbrev M1 : Memref sig .tc .vmem S512x16 .bf16 := Memref.whole cc0_stg1_0
abbrev M2 : Memref sig .tc .vmem S2048x2 .i32 := Memref.whole cc0_stg2_0
abbrev M3 : Memref sig .tc .vmem S4x512x1024 .bf16 := Memref.whole cc0_stg3_0
abbrev M4 : Memref sig .tc .vmem S2048x1024 .f32 := Memref.whole cc0_stg4_0

/-! ## What is read -/

theorem read_x (c k : Dev nD) (off : Fin 2 → ℕ) (h : off = ![512 * k.val, 0]) (inb : ∀ a, off a + S512x512.size a ≤ S2048x512.size a) :
    M0.view.readAt (Elt F) (Rect.unit (s := S2048x512) off S512x512.size inb).toLoadRect (xS m ρ c) = xRows m ρ c k := by
  subst h
  funext j
  show xS m ρ c _ = xS m ρ c _
  congr 1
  funext a
  fin_cases a
  · apply Fin.ext; show 512 * k.val + 1 * (j 0).val = 512 * k.val + (j 0).val; omega
  · apply Fin.ext; show 0 + 1 * (j 1).val = (j 1).val; omega

theorem read_i (c k : Dev nD) (e : Fin 2) (off : Fin 2 → ℕ) (h : off = ![512 * k.val, e.val]) (inb : ∀ a, off a + S512x1.size a ≤ S2048x2.size a) :
    M2.view.readAt (Elt F) (Rect.unit (s := S2048x2) off S512x1.size inb).toLoadRect (iS m ρ c) = iRows m ρ c k e := by
  subst h
  funext j
  show iS m ρ c _ = iS m ρ c _
  congr 1
  have h1 : (j 1).val < 1 := (j 1).isLt
  funext a
  fin_cases a
  · apply Fin.ext; show 512 * k.val + 1 * (j 0).val = 512 * k.val + (j 0).val; omega
  · apply Fin.ext; show e.val + 1 * (j 1).val = e.val; omega

theorem read_w (c : Dev nD) (inb : ∀ a, (![0, 0] : Fin 2 → ℕ) a + S512x16.size a ≤ S512x16.size a) :
    M1.view.readAt (Elt F) (Rect.unit (s := S512x16) ![0, 0] S512x16.size inb).toLoadRect (wS m ρ c) = wS m ρ c :=
  Memref.readAt_unit_zero (Elt F) cc0_stg1_0 (by funext a; fin_cases a <;> rfl) _ _

theorem read_e (c : Dev nD) (inb : ∀ a, (![0, 0, 0] : Fin 3 → ℕ) a + S4x512x1024.size a ≤ S4x512x1024.size a) :
    M3.view.readAt (Elt F) (Rect.unit (s := S4x512x1024) ![0, 0, 0] S4x512x1024.size inb).toLoadRect (eS m ρ c) = eS m ρ c :=
  Memref.readAt_unit_zero (Elt F) cc0_stg3_0 (by funext a; fin_cases a <;> rfl) _ _

/-- Where half `d` of a chunk starts in its row. -/
abbrev col (d : Bool) : ℕ := if d then 512 else 0

theorem read_tile (T : Dev nD → Bool → Tile F) (k : Dev nD) (d : Bool) (off : Fin 2 → ℕ) (h : off = ![512 * k.val, col d])
    (inb : ∀ a, off a + S512x512.size a ≤ S2048x1024.size a) :
    M4.view.readAt (Elt F) (Rect.unit (s := S2048x1024) off S512x512.size inb).toLoadRect (asm T) = T k d := by
  subst h
  funext j
  refine asm_at T k d j _ ?_ ?_
  · show 512 * k.val + 1 * (j 0).val = 512 * k.val + (j 0).val; omega
  · show col d + 1 * (j 1).val = col d + (j 1).val; omega

/-! ## What a store leaves -/

theorem write_tile (T : Dev nD → Bool → Tile F) (k : Dev nD) (d : Bool) (w : Tile F) (off : Fin 2 → ℕ) (h : off = ![512 * k.val, col d])
    (inb : ∀ a, off a + S512x512.size a ≤ S2048x1024.size a) :
    (M4.access (Rect.unit (s := S2048x1024) off S512x512.size inb)).write (Elt F) (asm T) w Finset.univ = asm (setTile T k d w) := by
  subst h
  funext i
  have hi0 : (i 0).val < 2048 := (i 0).isLt
  have hi1 : (i 1).val < 1024 := (i 1).isLt
  have hk := k.isLt
  by_cases hi : i ∈ (M4.access (Rect.unit (s := S2048x1024) ![512 * k.val, col d] S512x512.size inb)).setOn Finset.univ
  · obtain ⟨j, -, rfl⟩ := Finset.mem_map.mp hi
    refine (View.write_emb_of_mem _ _ (Finset.mem_univ j)).trans ?_
    refine Eq.symm ((asm_at _ k d j _ ?_ ?_).trans ?_)
    · show 512 * k.val + 1 * (j 0).val = 512 * k.val + (j 0).val; omega
    · show col d + 1 * (j 1).val = col d + (j 1).val; omega
    · unfold setTile; rw [if_pos ⟨rfl, rfl⟩]; rfl
  · refine (View.write_of_not_mem _ _ _ hi).trans ?_
    unfold asm setTile
    rw [if_neg]
    rintro ⟨e0, e1⟩
    have e0 : (i 0).val / 512 = k.val := congrArg Fin.val e0
    apply hi
    rw [View.setOn_univ, View.set_slice_whole, Rect.mem_set_unit]
    intro a
    fin_cases a
    · show 512 * k.val ≤ (i 0).val ∧ (i 0).val < 512 * k.val + 512; omega
    · show col d ≤ (i 1).val ∧ (i 1).val < col d + 512
      have e2 : 512 ≤ (i 1).val ↔ d = true := decide_eq_true_iff.symm.trans (by rw [e1])
      by_cases hd : d = true
      · have := e2.mpr hd; show (if d = true then 512 else 0) ≤ _ ∧ _ < (if d = true then 512 else 0) + 512; rw [if_pos hd]; omega
      · have := mt e2.mp hd; show (if d = true then 512 else 0) ≤ _ ∧ _ < (if d = true then 512 else 0) + 512; rw [if_neg hd]; omega

theorem write_chunk (T : Dev nD → Bool → Tile F) (k : Dev nD) (w : S512x1024.Idx → Elt F .f32) (off : Fin 2 → ℕ) (h : off = ![512 * k.val, 0])
    (inb : ∀ a, off a + S512x1024.size a ≤ S2048x1024.size a) :
    (M4.access (Rect.unit (s := S2048x1024) off S512x1024.size inb)).write (Elt F) (asm T) w Finset.univ = asm (setChunk T k w) := by
  subst h
  funext i
  have hi0 : (i 0).val < 2048 := (i 0).isLt
  have hi1 : (i 1).val < 1024 := (i 1).isLt
  by_cases hi : i ∈ (M4.access (Rect.unit (s := S2048x1024) ![512 * k.val, 0] S512x1024.size inb)).setOn Finset.univ
  · obtain ⟨j, -, rfl⟩ := Finset.mem_map.mp hi
    have hj0 : (j 0).val < 512 := (j 0).isLt
    have hj1 : (j 1).val < 1024 := (j 1).isLt
    refine (View.write_emb_of_mem _ _ (Finset.mem_univ j)).trans ?_
    refine Eq.symm ((asm_at _ k (decide (512 ≤ (j 1).val)) (ValueIdx.ix2 (j 0) ⟨(j 1).val % 512, Nat.mod_lt _ (by decide)⟩) _ ?_ ?_).trans ?_)
    · show 512 * k.val + 1 * (j 0).val = 512 * k.val + (j 0).val; omega
    · show 0 + 1 * (j 1).val = (if decide (512 ≤ (j 1).val) = true then 512 else 0) + (j 1).val % 512
      simp only [decide_eq_true_eq]; split <;> omega
    · unfold setChunk half
      rw [if_pos rfl]
      show w _ = w j
      congr 1
      funext a
      fin_cases a
      · rfl
      · apply Fin.ext
        show (if decide (512 ≤ (j 1).val) = true then 512 else 0) + (j 1).val % 512 = (j 1).val
        simp only [decide_eq_true_eq]; split <;> omega
  · refine (View.write_of_not_mem _ _ _ hi).trans ?_
    unfold asm setChunk
    rw [if_neg]
    intro e0
    have e0 : (i 0).val / 512 = k.val := congrArg Fin.val e0
    apply hi
    rw [View.setOn_univ, View.set_slice_whole, Rect.mem_set_unit]
    intro a
    fin_cases a
    · show 512 * k.val ≤ (i 0).val ∧ (i 0).val < 512 * k.val + 512; omega
    · show 0 ≤ (i 1).val ∧ (i 1).val < 0 + 1024; omega

/-! ## The loads and stores -/

/-- Device `c` holds a staged array. -/
abbrev arr {s : Shape} {e : EltTy} (c : Dev nD) (M : Memref sig .tc .vmem s e) (f : M.view.ty.Contents (Elt F)) : sProp 𝕄 :=
  iprop((M.view.loc (c : Thread nD τ)) ↦{fullShare} f)

/-- The result array on device `c`, by its tiles. -/
def res (c : Dev nD) (T : Dev nD → Bool → Tile F) : sProp 𝕄 := arr c M4 (asm T)

/-- The four staged inputs on device `c`. -/
def ins (c : Dev nD) : sProp 𝕄 := iprop(arr c M0 (xS m ρ c) ∗ arr c M1 (wS m ρ c) ∗ arr c M2 (iS m ρ c) ∗ arr c M3 (eS m ρ c))

section Rules
variable (c : Dev nD) {s : Shape} {e : EltTy} (M : Memref sig .tc .vmem s e) (f : M.view.ty.Contents (Elt F))

theorem wp_load_arr (r : LoadRect s) (v : r.shape.Idx → Elt F e) (h : M.view.readAt (Elt F) r f = v)
    {hl : M.view.LoadsAt r} {α : Type} {Q : α → sProp 𝕄} {k : (r.shape.Idx → Elt F e) → Prog (TpuEff nD τ sig (Elt F) Λ₀ .tc) α} :
    arr c M f ⊢ iprop((arr c M f -∗ WP c (k v) Q) -∗ WP c (.op (.load M r hl) k) Q) := by
  subst h
  exact wp_load 𝒱₀ (c : Thread nD τ) none Set.univ (m := M) (r := r) (S := Finset.univ) (f := f) (Finset.subset_univ _)

theorem wp_store_arr (r : Rect s) (w : r.shape.Idx → Elt F e) (g : M.view.ty.Contents (Elt F)) (h : (M.access r).write (Elt F) f w Finset.univ = g)
    {hx : (M.access r).Stores Finset.univ} {hm : Finset.univ = Finset.univ ∨ ∀ a, r.stride a = 1}
    {α : Type} {Q : α → sProp 𝕄} {k : PUnit → Prog (TpuEff nD τ sig (Elt F) Λ₀ .tc) α} :
    arr c M f ⊢ iprop((arr c M g -∗ WP c (k ⟨⟩) Q) -∗ WP c (.op (.store M r w Finset.univ hx hm) k) Q) := by
  subst h
  exact wp_store 𝒱₀ (c : Thread nD τ) none Set.univ (m := M) (r := r) (w := w) (Mk := Finset.univ) (S := Finset.univ) (f := f) (Finset.subset_univ _)
end Rules

section Res
variable (c : Dev nD) (T : Dev nD → Bool → Tile F) (k : Dev nD) (d : Bool) (off : Fin 2 → ℕ)

/-- A load from the result array whose value is not used. -/
theorem wp_skip (r : LoadRect S2048x1024) {hl : M4.view.LoadsAt r} {α : Type} {Q : α → sProp 𝕄}
    {kk : (r.shape.Idx → Elt F .f32) → Prog (TpuEff nD τ sig (Elt F) Λ₀ .tc) α} :
    res c T ⊢ iprop((∀ v, res c T -∗ WP c (kk v) Q) -∗ WP c (.op (.load M4 r hl) kk) Q) := by
  unfold res
  iintro H Hk
  iapply (wp_load_arr c M4 (asm T) r _ rfl) $$ H
  iintro H
  iapply Hk $$ %_
  iexact H

/-- A load of tile `(k, d)` of the result array. -/
theorem wp_load_tile (h : off = ![512 * k.val, col d]) (inb : ∀ a, off a + S512x512.size a ≤ S2048x1024.size a)
    {hl : M4.view.LoadsAt (Rect.unit (s := S2048x1024) off S512x512.size inb).toLoadRect} {α : Type} {Q : α → sProp 𝕄}
    {kk : Vec F S512x512 .f32 → Prog (TpuEff nD τ sig (Elt F) Λ₀ .tc) α} :
    res c T ⊢ iprop((res c T -∗ WP c (kk (T k d)) Q)
      -∗ WP c (.op (.load M4 (Rect.unit (s := S2048x1024) off S512x512.size inb).toLoadRect hl) kk) Q) :=
  wp_load_arr (F := F) c M4 (asm T) (Rect.unit (s := S2048x1024) off S512x512.size inb).toLoadRect (T k d) (read_tile T k d off h inb)

/-- A store to tile `(k, d)` of the result array. -/
theorem wp_store_tile (h : off = ![512 * k.val, col d]) (inb : ∀ a, off a + S512x512.size a ≤ S2048x1024.size a) (w : Tile F)
    {hx : (M4.access (Rect.unit (s := S2048x1024) off S512x512.size inb)).Stores Finset.univ}
    {hm : Finset.univ = Finset.univ ∨ ∀ a, (Rect.unit (s := S2048x1024) off S512x512.size inb).stride a = 1}
    {α : Type} {Q : α → sProp 𝕄} {kk : PUnit → Prog (TpuEff nD τ sig (Elt F) Λ₀ .tc) α} :
    res c T ⊢ iprop((res c (setTile T k d w) -∗ WP c (kk ⟨⟩) Q)
      -∗ WP c (.op (.store M4 (Rect.unit (s := S2048x1024) off S512x512.size inb) w Finset.univ hx hm) kk) Q) :=
  wp_store_arr c M4 (asm T) (Rect.unit (s := S2048x1024) off S512x512.size inb) w (asm (setTile T k d w)) (write_tile T k d w off h inb)

/-- A store to chunk `k` of the result array. -/
theorem wp_store_chunk (h : off = ![512 * k.val, 0]) (inb : ∀ a, off a + S512x1024.size a ≤ S2048x1024.size a) (w : S512x1024.Idx → Elt F .f32)
    {hx : (M4.access (Rect.unit (s := S2048x1024) off S512x1024.size inb)).Stores Finset.univ}
    {hm : Finset.univ = Finset.univ ∨ ∀ a, (Rect.unit (s := S2048x1024) off S512x1024.size inb).stride a = 1}
    {α : Type} {Q : α → sProp 𝕄} {kk : PUnit → Prog (TpuEff nD τ sig (Elt F) Λ₀ .tc) α} :
    res c T ⊢ iprop((res c (setChunk T k w) -∗ WP c (kk ⟨⟩) Q)
      -∗ WP c (.op (.store M4 (Rect.unit (s := S2048x1024) off S512x1024.size inb) w Finset.univ hx hm) kk) Q) :=
  wp_store_arr c M4 (asm T) (Rect.unit (s := S2048x1024) off S512x1024.size inb) w (asm (setChunk T k w)) (write_chunk T k w off h inb)
end Res

section Ins
variable (c k : Dev nD) (off : Fin 2 → ℕ)

/-- A load of chunk `k` of the tokens. -/
theorem wp_load_x (h : off = ![512 * k.val, 0]) (inb : ∀ a, off a + S512x512.size a ≤ S2048x512.size a)
    {hl : M0.view.LoadsAt (Rect.unit (s := S2048x512) off S512x512.size inb).toLoadRect} {α : Type} {Q : α → sProp 𝕄} {kk : Vec F S512x512 .bf16 → Prog (TpuEff nD τ sig (Elt F) Λ₀ .tc) α} :
    ins m ρ c ⊢ iprop((ins m ρ c -∗ WP c (kk (xRows m ρ c k)) Q)
      -∗ WP c (.op (.load M0 (Rect.unit (s := S2048x512) off S512x512.size inb).toLoadRect hl) kk) Q) := by
  unfold ins
  iintro ⟨H0, H1, H2, H3⟩ Hk
  iapply (wp_load_arr c M0 (xS m ρ c) (Rect.unit (s := S2048x512) off S512x512.size inb).toLoadRect (xRows m ρ c k) (read_x m ρ c k off h inb)) $$ H0
  iintro H0
  iapply Hk
  isplitl [H0]; · iexact H0
  isplitl [H1]; · iexact H1
  isplitl [H2]; · iexact H2
  iexact H3

/-- A load of the router weights. -/
theorem wp_load_w (inb : ∀ a, (![0, 0] : Fin 2 → ℕ) a + S512x16.size a ≤ S512x16.size a)
    {hl : M1.view.LoadsAt (Rect.unit (s := S512x16) ![0, 0] S512x16.size inb).toLoadRect} {α : Type} {Q : α → sProp 𝕄} {kk : Vec F S512x16 .bf16 → Prog (TpuEff nD τ sig (Elt F) Λ₀ .tc) α} :
    ins m ρ c ⊢ iprop((ins m ρ c -∗ WP c (kk (wS m ρ c)) Q)
      -∗ WP c (.op (.load M1 (Rect.unit (s := S512x16) ![0, 0] S512x16.size inb).toLoadRect hl) kk) Q) := by
  unfold ins
  iintro ⟨H0, H1, H2, H3⟩ Hk
  iapply (wp_load_arr c M1 (wS m ρ c) (Rect.unit (s := S512x16) ![0, 0] S512x16.size inb).toLoadRect (wS m ρ c) (read_w m ρ c inb)) $$ H1
  iintro H1
  iapply Hk
  isplitl [H0]; · iexact H0
  isplitl [H1]; · iexact H1
  isplitl [H2]; · iexact H2
  iexact H3

/-- A load of column `e` of chunk `k` of the routing indices. -/
theorem wp_load_i (e : Fin 2) (h : off = ![512 * k.val, e.val]) (inb : ∀ a, off a + S512x1.size a ≤ S2048x2.size a)
    {hl : M2.view.LoadsAt (Rect.unit (s := S2048x2) off S512x1.size inb).toLoadRect} {α : Type} {Q : α → sProp 𝕄} {kk : Vec F S512x1 .i32 → Prog (TpuEff nD τ sig (Elt F) Λ₀ .tc) α} :
    ins m ρ c ⊢ iprop((ins m ρ c -∗ WP c (kk (iRows m ρ c k e)) Q)
      -∗ WP c (.op (.load M2 (Rect.unit (s := S2048x2) off S512x1.size inb).toLoadRect hl) kk) Q) := by
  unfold ins
  iintro ⟨H0, H1, H2, H3⟩ Hk
  iapply (wp_load_arr c M2 (iS m ρ c) (Rect.unit (s := S2048x2) off S512x1.size inb).toLoadRect (iRows m ρ c k e) (read_i m ρ c k e off h inb)) $$ H2
  iintro H2
  iapply Hk
  isplitl [H0]; · iexact H0
  isplitl [H1]; · iexact H1
  isplitl [H2]; · iexact H2
  iexact H3

/-- A load of the experts' weights. -/
theorem wp_load_e (inb : ∀ a, (![0, 0, 0] : Fin 3 → ℕ) a + S4x512x1024.size a ≤ S4x512x1024.size a)
    {hl : M3.view.LoadsAt (Rect.unit (s := S4x512x1024) ![0, 0, 0] S4x512x1024.size inb).toLoadRect}
    {α : Type} {Q : α → sProp 𝕄} {kk : Vec F S4x512x1024 .bf16 → Prog (TpuEff nD τ sig (Elt F) Λ₀ .tc) α} :
    ins m ρ c ⊢ iprop((ins m ρ c -∗ WP c (kk (eS m ρ c)) Q)
      -∗ WP c (.op (.load M3 (Rect.unit (s := S4x512x1024) ![0, 0, 0] S4x512x1024.size inb).toLoadRect hl) kk) Q) := by
  unfold ins
  iintro ⟨H0, H1, H2, H3⟩ Hk
  iapply (wp_load_arr c M3 (eS m ρ c) (Rect.unit (s := S4x512x1024) ![0, 0, 0] S4x512x1024.size inb).toLoadRect (eS m ρ c) (read_e m ρ c inb)) $$ H3
  iintro H3
  iapply Hk
  isplitl [H0]; · iexact H0
  isplitl [H1]; · iexact H1
  isplitl [H2]; · iexact H2
  iexact H3
end Ins

end Cert.KernelIdealRun

end
-- ==== Proof.KernelIdeal.Slots.lean ====
module

public import proofs.«01_k».proof.Proof.KernelIdeal.Access
public import Idealize.ShloMosaic.Lib.Pipeline.Value
public import Idealize.ShloMosaic.Lib.StableHlo.CollectiveRules

/-! # Slots and tiles as the body meets them

The loads and stores of a slot by direction and hop, the values stored, and the tiles each offset names. -/

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Slots -/

/-- The slot channel `x` sends out of, at any contents. -/
def room (x : Fin 12) (c : Dev nD) : sProp 𝕄 := iprop(∃ v : S512x512.Idx → Elt F .bf16, has c (sM x) fullShare v)

/-- A load of the slot channel `x` lands in, slot `h` of the buffer `B`. -/
theorem wp_peek (c : Dev nD) (x : Fin 12) (B : Memref sig .tc .vmem S6x512x512 .bf16) (h : Fin 6) (hx : rM x = slot6 B h)
    (off : Fin 3 → ℕ) (ho : off = ![h.val, 0, 0]) (q : PosShare TreeShare) (v : S512x512.Idx → Elt F .bf16)
    {inb : ∀ a, off a + S1x512x512.size a ≤ S6x512x512.size a}
    {hl : B.view.LoadsAt (Rect.unit (s := S6x512x512) off S1x512x512.size inb).toLoadRect}
    {α : Type} {Q : α → sProp 𝕄} {k : Vec F S1x512x512 .bf16 → Prog (TpuEff nD τ sig (Elt F) Λ₀ .tc) α} :
    has c (rM x) q v
      ⊢ iprop((∀ u : Vec F S1x512x512 .bf16, ⌜shapeCast S512x512 u sc3 = v⌝ -∗ has c (rM x) q v -∗ WP c (k u) Q)
          -∗ WP c (.op (.load B (Rect.unit (s := S6x512x512) off S1x512x512.size inb).toLoadRect hl) k) Q) := by
  subst ho
  rw [hx]
  exact wp_load_slot c B (Rect.unit (s := S6x512x512) ![h.val, 0, 0] S1x512x512.size (inb6 h)) (fun _ => rfl) squeezes_S1x512x512_S512x512 sc3 q v

/-- A load of the slot channel `x` sends out of, slot `h` of the buffer `B`, its value not used, then a store of `w` to it. -/
theorem wp_fill (c : Dev nD) (x : Fin 12) (B : Memref sig .tc .vmem S4x512x512 .bf16) (h : Fin 4) (hx : sM x = slot4 B h) (hq : qs x = fullShare)
    (off : Fin 3 → ℕ) (ho : off = ![h.val, 0, 0]) (v : S512x512.Idx → Elt F .bf16) (w : Vec F S1x512x512 .bf16) (w' : S512x512.Idx → Elt F .bf16)
    (hw : shapeCast S512x512 w sc3 = w')
    {inb inb' : ∀ a, off a + S1x512x512.size a ≤ S4x512x512.size a}
    {hl : B.view.LoadsAt (Rect.unit (s := S4x512x512) off S1x512x512.size inb).toLoadRect}
    {hx' : (B.access (Rect.unit (s := S4x512x512) off S1x512x512.size inb')).Stores Finset.univ}
    {hm : Finset.univ = Finset.univ ∨ ∀ a, (Rect.unit (s := S4x512x512) off S1x512x512.size inb').stride a = 1}
    {α : Type} {Q : α → sProp 𝕄} {k : PUnit → Prog (TpuEff nD τ sig (Elt F) Λ₀ .tc) α} :
    has c (sM x) fullShare v
      ⊢ iprop((has c (sM x) (qs x) w' -∗ WP c (k ⟨⟩) Q)
          -∗ WP c (.op (.load B (Rect.unit (s := S4x512x512) off S1x512x512.size inb).toLoadRect hl)
            fun _ => .op (.store B (Rect.unit (s := S4x512x512) off S1x512x512.size inb') w Finset.univ hx' hm) k) Q) := by
  subst ho hw
  rw [hx, hq]
  unfold slot4
  iintro H Hk
  iapply (wp_load_slot c B (Rect.unit (s := S4x512x512) ![h.val, 0, 0] S1x512x512.size (inb4 h)) (fun _ => rfl) squeezes_S1x512x512_S512x512 sc3 fullShare v) $$ H
  iintro %u %hu H
  iapply (wp_store_slot c B (Rect.unit (s := S4x512x512) ![h.val, 0, 0] S1x512x512.size (inb4 h)) (fun _ => rfl) squeezes_S1x512x512_S512x512 sc3 v w) $$ H
  iexact Hk

/-- A slot held whole is held twice at half. -/
theorem halve (c : Dev nD) (M : Memref sig .tc .vmem S512x512 .bf16) (v : S512x512.Idx → Elt F .bf16) :
    has c M fullShare v ⊢ iprop(has c M (PosShare.left fullShare) v ∗ has c M (PosShare.right fullShare) v) :=
  (owns_share (c : Thread nD τ) M (PosShare.mem_left_op_right fullShare) v).1
theorem whole_again (c : Dev nD) (M : Memref sig .tc .vmem S512x512 .bf16) (v : S512x512.Idx → Elt F .bf16) :
    iprop(has c M (PosShare.left fullShare) v ∗ has c M (PosShare.right fullShare) v) ⊢ has c M fullShare v :=
  (owns_share (c : Thread nD τ) M (PosShare.mem_left_op_right fullShare) v).2

/-! ## The values stored -/

section Values
variable (a : Vec F S512x512 .f32) (u : Vec F S1x512x512 .bf16)

theorem pay22_eq : shapeCast S512x512 (k0_pay22 a) sc3 = rnd a := by unfold k0_pay22 rnd; rw [shapeCast_shapeCast, shapeCast_self]
theorem pay23_eq : shapeCast S512x512 (k0_pay23 a) sc3 = rnd a := by unfold k0_pay23 rnd; rw [shapeCast_shapeCast, shapeCast_self]
theorem pay44_eq : shapeCast S512x512 (k0_pay44 (k0_pay42 a) (k0_pay43 u)) sc3 = rnd (plus a (shapeCast S512x512 u sc3)) := by
  unfold k0_pay44 k0_pay42 k0_pay43 rnd plus; rw [shapeCast_shapeCast, shapeCast_self]
theorem pay45_eq : shapeCast S512x512 (k0_pay45 a u) sc3 = rnd (plus a (shapeCast S512x512 u sc3)) := by
  unfold k0_pay45 rnd plus; rw [shapeCast_shapeCast, shapeCast_self]
theorem pay46_eq : shapeCast S512x512 (k0_pay46 a u) sc3 = rnd (plus a (shapeCast S512x512 u sc3)) := by
  unfold k0_pay46 rnd plus; rw [shapeCast_shapeCast, shapeCast_self]
theorem pay47_eq : shapeCast S512x512 (k0_pay47 a u) sc3 = rnd (plus a (shapeCast S512x512 u sc3)) := by
  unfold k0_pay47 rnd plus; rw [shapeCast_shapeCast, shapeCast_self]
theorem pay48_eq : k0_pay48 a u = plus a (shapeCast S512x512 u sc3) := by unfold k0_pay48 plus; rw [shapeCast_self]
theorem pay49_eq : shapeCast S512x512 (k0_pay49 a u) sc3 = rnd (plus a (shapeCast S512x512 u sc3)) := by
  unfold k0_pay49; rw [pay48_eq, shapeCast_shapeCast]; rfl
theorem pay50_eq : k0_pay50 a u = plus a (shapeCast S512x512 u sc3) := by unfold k0_pay50 plus; rw [shapeCast_self]
theorem pay51_eq : shapeCast S512x512 (k0_pay51 a u) sc3 = rnd (plus a (shapeCast S512x512 u sc3)) := by
  unfold k0_pay51; rw [pay50_eq, shapeCast_shapeCast]; rfl
theorem pay52_eq : k0_pay52 u = wid (shapeCast S512x512 u sc3) := rfl
theorem pay53_eq : k0_pay53 u = wid (shapeCast S512x512 u sc3) := rfl
theorem pay54_eq : k0_pay54 u = wid (shapeCast S512x512 u sc3) := rfl
theorem pay55_eq : k0_pay55 u = wid (shapeCast S512x512 u sc3) := rfl
theorem pay56_eq : k0_pay56 u = wid (shapeCast S512x512 u sc3) := rfl
theorem pay57_eq : k0_pay57 u = wid (shapeCast S512x512 u sc3) := rfl
end Values

/-! ## Where the offsets point -/

section Offsets
variable (c : Dev nD)

theorem at1_prv : k0_off1 c 1#32 = ![512 * (prv c).val, 0] := by revert c; decide +kernel
theorem at1_opp : k0_off1 c 2#32 = ![512 * (opp c).val, 0] := by revert c; decide +kernel
theorem at2_prv : k0_off2 c 1#32 = ![512 * (prv c).val, 0] := by revert c; decide +kernel
theorem at2_opp : k0_off2 c 2#32 = ![512 * (opp c).val, 0] := by revert c; decide +kernel
theorem at3_prv : k0_off3 c 1#32 = ![512 * (prv c).val, 1] := by revert c; decide +kernel
theorem at3_opp : k0_off3 c 2#32 = ![512 * (opp c).val, 1] := by revert c; decide +kernel
theorem at4_prv : k0_off4 c 1#32 = ![512 * (prv c).val, 0] := by revert c; decide +kernel
theorem at4_opp : k0_off4 c 2#32 = ![512 * (opp c).val, 0] := by revert c; decide +kernel
theorem at9_0 : k0_off9 c 0#32 = ![512 * (chunkAt false 0 c).val, col false] := by revert c; decide +kernel
theorem at9_1 : k0_off9 c 1#32 = ![512 * (chunkAt false 1 c).val, col false] := by revert c; decide +kernel
theorem at9_2 : k0_off9 c 2#32 = ![512 * (chunkAt false 2 c).val, col false] := by revert c; decide +kernel
theorem at10_0 : k0_off10 c 0#32 = ![512 * (chunkAt true 0 c).val, col true] := by revert c; decide +kernel
theorem at10_1 : k0_off10 c 1#32 = ![512 * (chunkAt true 1 c).val, col true] := by revert c; decide +kernel
theorem at10_2 : k0_off10 c 2#32 = ![512 * (chunkAt true 2 c).val, col true] := by revert c; decide +kernel
theorem at15 : k0_off15 c = ![512 * (chunkAt false 3 c).val, col false] := by revert c; decide +kernel
theorem at16 : k0_off16 c = ![512 * (chunkAt true 3 c).val, col true] := by revert c; decide +kernel

/-- A device given by the number of `fwd`. -/
theorem dev_of (c : Dev nD) (n : Dev nD → ℕ) (hn : ∀ c, n c < nD) (g : Dev nD → Dev nD) (h : ∀ c, n c = (g c).val) :
    (⟨n c, hn c⟩ : Dev nD) = g c := Fin.ext (h c)
end Offsets

/-! ## The tiles -/

/-- The tiles once all four chunks are computed. -/
def T₁ (c : Dev nD) : Dev nD → Bool → Tile F := fun k d => half (part m ρ c k) d

theorem tiles_full (c : Dev nD) (T : Dev nD → Bool → Tile F) :
    setChunk (setChunk (setChunk (setChunk T (prv c) (part m ρ c (prv c))) (nxt c) (part m ρ c (nxt c))) (opp c) (part m ρ c (opp c))) c (part m ρ c c)
      = T₁ m ρ c := by
  funext k d
  unfold setChunk T₁
  rcases dev_cases c k with h | h | h | h
  · rw [if_pos h, h]
  · rw [if_neg (h ▸ nxt_ne c), if_neg (h ▸ (opp_ne_nxt c).symm), if_pos h, h]
  · rw [if_neg (h ▸ opp_ne c), if_pos h, h]
  · rw [if_neg (h ▸ prv_ne c), if_neg (h ▸ (opp_ne_prv c).symm), if_neg (h ▸ (nxt_ne_prv c).symm), if_pos h, h]

/-- The tiles at the end of the exchange are the result's. -/
theorem tiles_final (c : Dev nD) (T : Dev nD → Bool → Tile F) :
    setTile (setTile (setTile (setTile (setTile (setTile (setTile (setTile T
      (chunkAt false 3 c) false (red m ρ false 3 c)) (chunkAt true 3 c) true (red m ρ true 3 c))
      (chunkAt false 0 c) false (wid (inn m ρ 3 c))) (chunkAt true 0 c) true (wid (inn m ρ 9 c)))
      (chunkAt false 1 c) false (wid (inn m ρ 4 c))) (chunkAt true 1 c) true (wid (inn m ρ 10 c)))
      (chunkAt false 2 c) false (wid (inn m ρ 5 c))) (chunkAt true 2 c) true (wid (inn m ρ 11 c)) = fin m ρ c := by
  have f3 : chunkAt false 3 c = c := by revert c; decide
  have t3 : chunkAt true 3 c = c := by revert c; decide
  have t0 : chunkAt true 0 c = nxt c := rfl
  have f0 : chunkAt false 0 c = prv c := rfl
  have t1 : chunkAt true 1 c = opp c := by revert c; decide
  have f1 : chunkAt false 1 c = opp c := by revert c; decide
  have t2 : chunkAt true 2 c = prv c := by revert c; decide
  have f2 : chunkAt false 2 c = nxt c := by revert c; decide
  have i4 : inn m ρ 4 c = msg m ρ false 3 (chunkAt false 1 c) := rfl
  have i10 : inn m ρ 10 c = msg m ρ true 3 (chunkAt true 1 c) := rfl
  have i5 : inn m ρ 5 c = msg m ρ false 3 (chunkAt false 2 c) := rfl
  have i11 : inn m ρ 11 c = msg m ρ true 3 (chunkAt true 2 c) := rfl
  have i3 : inn m ρ 3 c = msg m ρ false 3 (chunkAt false 0 c) := rfl
  have i9 : inn m ρ 9 c = msg m ρ true 3 (chunkAt true 0 c) := rfl
  rw [i3, i4, i5, i9, i10, i11, f0, f1, f2, f3, t0, t1, t2, t3]
  funext k d
  have n1 := nxt_ne c; have n2 := prv_ne c; have n3 := opp_ne c; have n4 := opp_ne_nxt c; have n5 := opp_ne_prv c; have n6 := nxt_ne_prv c
  rcases dev_cases c k with h | h | h | h <;> subst h <;> cases d <;>
    simp [setTile, fin, n1, n2, n3, n4, n5, n6, n1.symm, n2.symm, n3.symm, n4.symm, n5.symm, n6.symm]

end Cert.KernelIdealRun

end
-- ==== Proof.KernelIdeal.Compute.lean ====
module

public import proofs.«01_k».proof.Proof.KernelIdeal.Slots

/-! # The body's opening and its four chunks

The barrier, then the loads, the arithmetic and the stores of the four chunks, part by part: what each part needs and what
it returns. -/

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Key → ℕ) (c : Dev nD)

/-- What device `c` needs for the barrier: the duty of the unit it signals each neighbour, and its own cell with the two units
    credited to it. -/
def gate : sProp 𝕄 :=
  iprop(dutyTok ER (barCell (prv c)) 0 false ∗ dutyTok ER (barCell (nxt c)) 0 true ∗ atPos ER (barCell c) 0 ∅ 0 ∗ cred (tallyAt (barCell c) () 2))

theorem part1 {Q : _ → sProp 𝕄} :
    recs m ρ K ⊢ iprop(gate c -∗ slots false c -∗ slots true c -∗ ins m ρ c -∗ Ow c (O₀ c)
        -∗ (∀ v5 v7 v20 v21, semVal (barCell c) 0 -∗ slots false (nxt c) -∗ slots true (prv c) -∗ ins m ρ c
            -∗ Ow c (owedL c [0, 6, 1, 7, 2, 8, 3, 9, 4, 10, 5, 11])
            -∗ Q ⟨c, idWord c, v5, v7, k0_pay1 (eS m ρ c), iota .tc S1x16 32 [1] iota_S1x16_d1_w32, v20, v21, k0_pay2 (xRows m ρ c (prv c)),
                k0_pay3 (xRows m ρ c (prv c)) (wS m ρ c)⟩)
        -∗ WP c (k0_part1 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  simp only [k0_part1_eq_skeleton]; unfold k0_part1_skel
  simp only [semSignalWord, semWaitWord, Prog.lift, Prog.bind_op, Prog.bind_ret, Prog.pure_eq_ret, wp_deviceId]
  simp only [dev_of c k0_dev1 k0_dev1_lt prv k0_dev1_eq, dev_of c k0_dev2 k0_dev2_lt nxt k0_dev2_eq]
  unfold gate idWord
  iintro #HR ⟨Ht1, Ht2, Hat, Hc⟩ Hs1 Hs2 Hi HO Hk
  ihave #HI := (recs_inv m ρ K (c, 0) _ (kcell_bar c)) $$ HR
  ihave #HIp := (recs_inv m ρ K (prv c, 0) _ (kcell_bar (prv c))) $$ HR
  ihave #HIn := (recs_inv m ρ K (nxt c, 0) _ (kcell_bar (nxt c))) $$ HR
  ihave #Hrp := (recs_reached m ρ K (prv c, 0) _ (kcell_bar (prv c))) $$ HR
  ihave #Hrn := (recs_reached m ρ K (nxt c, 0) _ (kcell_bar (nxt c))) $$ HR
  ihave #Hlev := (recs_lev m ρ K) $$ HR
  unfold Ow
  icases HO with ⟨%W, HO⟩
  iapply (Rounds.wp_signal 𝒱₀ ER (Rd m ρ) (c : Thread nD τ) none (dst := (prv c : Thread nD τ)) (κ := K (prv c, 0))
      (d := false) (by rw [duties_bar]; exact Finset.mem_univ _) (show 1 = _ by decide) () (O₁ c) rfl) $$ [HO Ht1 Hs1]
  · isplitr; · iexact HIp
    isplitl [HO]; · iexact HO
    isplitl [Ht1]; · iexact Ht1
    isplitl [Hs1]
    · rw [payload_bar]; unfold barPay fwd; rw [if_neg (by decide), nxt_prv]; iexact Hs1
    · iexact Hrp
  iintro HO
  iapply (Rounds.wp_signal 𝒱₀ ER (Rd m ρ) (c : Thread nD τ) none (dst := (nxt c : Thread nD τ)) (κ := K (nxt c, 0))
      (d := true) (by rw [duties_bar]; exact Finset.mem_univ _) (show 1 = _ by decide) () (owedL c [0, 6, 1, 7, 2, 8, 3, 9, 4, 10, 5, 11]) rfl) $$ [HO Ht2 Hs2]
  · isplitr; · iexact HIn
    isplitl [HO]; · iexact HO
    isplitl [Ht2]; · iexact Ht2
    isplitl [Hs2]
    · rw [payload_bar]; unfold barPay fwd; rw [if_pos rfl, prv_nxt]; iexact Hs2
    · iexact Hrn
  iintro HO
  iapply (Rounds.wp_wait_rest_token 𝒱₀ ER (Rd m ρ) (c : Thread nD τ) none (κ := K (c, 0))
      (wpE_semWait_eq 𝒱₀ (c : Thread nD τ) none Set.univ) (Set.mem_univ _) () (O := owedL c [0, 6, 1, 7, 2, 8, 3, 9, 4, 10, 5, 11]) (W := W)
      (R := 0) (m := 0) (T := ∅) (by rw [expect_bar]; decide)) $$ [Hc HO Hat]
  · isplitr; · iexact HI
    isplitl [Hc]; · iexact Hc
    isplitl [HO]; · iexact HO
    isplitr; · iapply (mayWait_owed c _ [0, 6, 1, 7, 2, 8, 3, 9, 4, 10, 5, 11] (by decide)); iexact Hlev
    iexact Hat
  iintro ⟨HO, Hat, -, Hp⟩
  ihave Hp := (Entails.of_eq (rest_bar m ρ c)) $$ Hp
  imod (Rounds.cell_close ER (Rd m ρ) (Set.mem_univ (K (c, 0))) (fun h => h) (R := 0 + 1) (duties_later m ρ (barCell c))) $$ [Hat] with Hz
  · isplitr; · iexact HI
    iexact Hat
  icases Hp with ⟨Hp1, Hp2⟩
  iapply (wp_load_e m ρ c) $$ Hi
  iintro Hi
  iapply (wp_load_x m ρ c (prv c) (k0_off1 c 1#32) (at1_prv c)) $$ Hi
  iintro Hi
  iapply (wp_load_w m ρ c) $$ Hi
  iintro Hi
  iapply (wp_done c)
  iapply Hk $$ %_ %_ %_ %_ Hz [Hp1] [Hp2] Hi [HO]
  · unfold barPay fwd; rw [if_neg (by decide)]; iexact Hp1
  · unfold barPay fwd; rw [if_pos rfl]; iexact Hp2
  · iexists _; iexact HO

theorem part2 (v2 : BitVec 32) (v14 : FVec F S4x512x1024 .bf16) (v15 : IVec S1x16 32) (v21 : BitVec 32) (v24 : FVec F S512x512 .bf16) (v27 : FVec F S512x16 .f32)
    {Q : _ → sProp 𝕄} :
    ins m ρ c ⊢ iprop((ins m ρ c -∗ Q ⟨k0_pay4 (iRows m ρ c (prv c) 0), k0_pay5 (iRows m ρ c (prv c) 1),
          k0_pay6 v15 v27 (iRows m ρ c (prv c) 0) (iRows m ρ c (prv c) 1), k0_pay7 v15 v27 (iRows m ρ c (prv c) 0) (iRows m ρ c (prv c) 1), k0_pay8 (F := F),
          k0_pay9 v2 v15 v24 v27 (iRows m ρ c (prv c) 0) (iRows m ρ c (prv c) 1), k0_pay10 v14⟩)
        -∗ WP c (k0_part2 M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v14 v15 v21 v24 v27) Q) := by
  simp only [k0_part2_eq_skeleton]; unfold k0_part2_skel
  simp only [Prog.lift, Prog.bind_op, Prog.bind_ret, Prog.pure_eq_ret]
  iintro Hi Hk
  iapply (wp_load_i m ρ c (prv c) (k0_off2 c 1#32) 0 (at2_prv c)) $$ Hi
  iintro Hi
  iapply (wp_load_i m ρ c (prv c) (k0_off3 c 1#32) 1 (at3_prv c)) $$ Hi
  iintro Hi
  iapply (wp_done c)
  iapply Hk $$ Hi

theorem part3 (v2 : BitVec 32) (v14 : FVec F S4x512x1024 .bf16) (v24 : FVec F S512x512 .bf16) (v30 v33 : Vec F S512x1 .i32) (v53 v55 : _) (v56 v71 v73 : _)
    {Q : _ → sProp 𝕄} :
    Q ⟨k0_pay11 v2 v14 v24 v30 v33 v53 v55 v56 v71 v73, Scalar.addi (Scalar.muli v2 4#32) 3#32, k0_pay12 v2 v30 v53⟩
      ⊢ WP c (k0_part3 M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 v14 v24 v30 v33 v53 v55 v56 v71 v73) Q := by
  simp only [k0_part3_eq_skeleton]; unfold k0_part3_skel
  simp only [Prog.lift, Prog.bind_op, Prog.bind_ret, Prog.pure_eq_ret]
  exact wp_done c _ _

theorem part4 (T : Dev nD → Bool → Tile F) (v14 : FVec F S4x512x1024 .bf16) (v15 : IVec S1x16 32) (v20 v21 : BitVec 32) (v24 : FVec F S512x512 .bf16)
    (v33 : _) (v55 : _) (v113 : _) (v115 : BitVec 32) (v119 : _)
    (w : S512x1024.Idx → Elt F .f32) (hw : k0_pay13 v14 v24 v33 v55 v113 v115 v119 = w) {Q : _ → sProp 𝕄} :
    iprop(ins m ρ c ∗ res c T) ⊢ iprop((∀ v135, ins m ρ c -∗ res c (setChunk T (prv c) w)
          -∗ Q ⟨v135, k0_pay14 (xRows m ρ c (nxt c)), k0_pay15 (iRows m ρ c (nxt c) 0), k0_pay16 (iRows m ρ c (nxt c) 1),
            k0_pay17 v15 (xRows m ρ c (nxt c)) (wS m ρ c) (iRows m ρ c (nxt c) 0) (iRows m ρ c (nxt c) 1), Scalar.ofBits .f32 0x3F800000#32⟩)
        -∗ WP c (k0_part4 M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v14 v15 v20 v21 v24 v33 v55 v113 v115 v119) Q) := by
  simp only [k0_part4_eq_skeleton]; unfold k0_part4_skel
  simp only [Prog.lift, Prog.bind_op, Prog.bind_ret, Prog.pure_eq_ret]
  subst hw
  iintro ⟨Hi, HT⟩ Hk
  iapply (wp_skip c T) $$ HT
  iintro %_v HT
  iapply (wp_store_chunk c T (prv c) (k0_off4 c 1#32) (at4_prv c)) $$ HT
  iintro HT
  iapply (wp_load_x m ρ c (nxt c) (k0_off5 c) (k0_off5_eq c)) $$ Hi
  iintro Hi
  iapply (wp_load_w m ρ c) $$ Hi
  iintro Hi
  iapply (wp_load_i m ρ c (nxt c) (k0_off6 c) 0 (k0_off6_eq c)) $$ Hi
  iintro Hi
  iapply (wp_load_i m ρ c (nxt c) (k0_off7 c) 1 (k0_off7_eq c)) $$ Hi
  iintro Hi
  iapply (wp_done c)
  iapply Hk $$ %_ Hi HT

theorem part5 (v2 : BitVec 32) (v14 v138 v144 v147 v163 cst : _) {Q : _ → sProp 𝕄} :
    Q ⟨k0_pay18 v163 cst, k0_pay19 v163 cst, k0_pay20 v2 v14 v138 v144 v147 v163 cst, Scalar.muli v2 4#32⟩
      ⊢ WP c (k0_part5 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 v14 v138 v144 v147 v163 cst) Q := by
  simp only [k0_part5_eq_skeleton]; unfold k0_part5_skel
  simp only [Prog.lift, Prog.bind_op, Prog.bind_ret, Prog.pure_eq_ret]
  exact wp_done c _ _

theorem part6 (T : Dev nD → Bool → Tile F) (v2 : BitVec 32) (v14 v135 v138 v144 v147 v167 v169 v208 v209 : _)
    (w : S512x1024.Idx → Elt F .f32) (hw : k0_pay21 v2 v14 v138 v144 v147 v167 v169 v208 v209 = w) {Q : _ → sProp 𝕄} :
    res c T ⊢ iprop((∀ v253, res c (setChunk T (nxt c) w) -∗ Q v253)
        -∗ WP c (k0_part6 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v14 v135 v138 v144 v147 v167 v169 v208 v209) Q) := by
  simp only [k0_part6_eq_skeleton]; unfold k0_part6_skel
  simp only [Prog.lift, Prog.bind_op, Prog.bind_ret, Prog.pure_eq_ret]
  subst hw
  iintro HT Hk
  iapply (wp_skip c T) $$ HT
  iintro %_v HT
  iapply (wp_store_chunk c T (nxt c) (k0_off8 c) (k0_off8_eq c)) $$ HT
  iintro HT
  iapply (wp_done c)
  iapply Hk $$ %_ HT

theorem part9 (v2 : BitVec 32) (v14 v298 v304 v307 v323 : _) {Q : _ → sProp 𝕄} :
    Q ⟨k0_pay28 v323, k0_pay29 v323, k0_pay30 v2 v14 v298 v304 v307 v323, 4#32⟩
      ⊢ WP c (k0_part9 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 v14 v298 v304 v307 v323) Q := by
  simp only [k0_part9_eq_skeleton]; unfold k0_part9_skel
  simp only [Prog.lift, Prog.bind_op, Prog.bind_ret, Prog.pure_eq_ret]
  exact wp_done c _ _

theorem part10 (T : Dev nD → Bool → Tile F) (v2 : BitVec 32) (v14 v295 v298 v304 v307 v327 v329 v368 c4 : _)
    (w : S512x1024.Idx → Elt F .f32) (hw : k0_pay31 v2 v14 v298 v304 v307 v327 v329 v368 c4 = w) {Q : _ → sProp 𝕄} :
    iprop(ins m ρ c ∗ res c T) ⊢ iprop((∀ v409, ins m ρ c -∗ res c (setChunk T (opp c) w)
          -∗ Q ⟨v409, k0_pay32 (xRows m ρ c c), wS m ρ c⟩)
        -∗ WP c (k0_part10 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v14 v295 v298 v304 v307 v327 v329 v368 c4) Q) := by
  simp only [k0_part10_eq_skeleton]; unfold k0_part10_skel
  simp only [Prog.lift, Prog.bind_op, Prog.bind_ret, Prog.pure_eq_ret]
  subst hw
  iintro ⟨Hi, HT⟩ Hk
  iapply (wp_skip c T) $$ HT
  iintro %_v HT
  iapply (wp_store_chunk c T (opp c) (k0_off4 c 2#32) (at4_opp c)) $$ HT
  iintro HT
  iapply (wp_load_x m ρ c c (k0_off11 c) (k0_off11_eq c)) $$ Hi
  iintro Hi
  iapply (wp_load_w m ρ c) $$ Hi
  iintro Hi
  iapply (wp_done c)
  iapply Hk $$ %_ Hi HT

theorem part11 (v2 : BitVec 32) (v15 v409 v412 v413 : _) {Q : _ → sProp 𝕄} :
    ins m ρ c ⊢ iprop((ins m ρ c -∗ Q ⟨k0_pay33 (iRows m ρ c c 0), k0_pay34 (iRows m ρ c c 1), k0_pay35 v15 v412 v413 (iRows m ρ c c 0) (iRows m ρ c c 1),
          k0_pay36 v15 v412 v413 (iRows m ρ c c 0) (iRows m ρ c c 1), k0_pay37 (F := F), k0_pay38 v2 v15 v412 v413 (iRows m ρ c c 0) (iRows m ρ c c 1)⟩)
        -∗ WP c (k0_part11 M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v15 v409 v412 v413) Q) := by
  simp only [k0_part11_eq_skeleton]; unfold k0_part11_skel
  simp only [Prog.lift, Prog.bind_op, Prog.bind_ret, Prog.pure_eq_ret]
  iintro Hi Hk
  iapply (wp_load_i m ρ c c (k0_off12 c) 0 (k0_off12_eq c)) $$ Hi
  iintro Hi
  iapply (wp_load_i m ρ c c (k0_off13 c) 1 (k0_off13_eq c)) $$ Hi
  iintro Hi
  iapply (wp_done c)
  iapply Hk $$ Hi

theorem part12 (v2 : BitVec 32) (v14 v412 v418 v421 v441 v443 v444 v458 : _) {Q : _ → sProp 𝕄} :
    Q ⟨k0_pay39 v2 v14 v412 v418 v421 v441 v443 v444 v458, Scalar.addi (Scalar.muli v2 4#32) 3#32, k0_pay40 v2 v418⟩
      ⊢ WP c (k0_part12 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 v14 v412 v418 v421 v441 v443 v444 v458) Q := by
  simp only [k0_part12_eq_skeleton]; unfold k0_part12_skel
  simp only [Prog.lift, Prog.bind_op, Prog.bind_ret, Prog.pure_eq_ret]
  exact wp_done c _ _

end Cert.KernelIdealRun

end
-- ==== Proof.KernelIdeal.Parts.lean ====
module

public import proofs.«01_k».proof.Proof.KernelIdeal.Slots

/-! # The exchange's parts

Part by part, from the first copy started to the last send awaited: what each part needs, and what it leaves. A part takes
the tiles of the result array as they stand and leaves them with its own stores made. -/

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Key → ℕ) (c : Dev nD)

/-- Channel `x` has landed on device `c`, and share `q` of its slot is still held. -/
def arrived (x : Fin 12) (q : PosShare TreeShare) (c : Dev nD) : sProp 𝕄 := iprop(semVal (rcvCell x c) 0 ∗ has c (rM x) q (inn m ρ x c))
/-- Channel `x` has left device `c`, and its source is back. -/
def back (x : Fin 12) (c : Dev nD) : sProp 𝕄 := iprop(semVal (sndCell x c) 0 ∗ has c (sM x) (qs x) (out m ρ x c))
/-- Channel `x` of device `c` ready to be sent on. -/
def ready (x : Fin 12) (c : Dev nD) : sProp 𝕄 := iprop(unsent x c ∗ target x c)

/-- A slot that has landed is lent by half to the copy that sends it on. -/
theorem lend (x y : Fin 12) (hM : sM y = rM x) (hq : qs y = PosShare.left fullShare) (hv : out m ρ y c = inn m ρ x c) :
    has c (rM x) fullShare (inn m ρ x c) ⊢ iprop(has c (sM y) (qs y) (out m ρ y c) ∗ has c (rM x) (PosShare.right fullShare) (inn m ρ x c)) := by
  rw [hM, hq, hv]
  exact halve c (rM x) _

/-- The two messages of hop 0 written, the first sent. -/
theorem part7 (T : Dev nD → Bool → Tile F) (h0 : T (prv c) false = half (part m ρ c (prv c)) false)
    (h1 : T (nxt c) true = half (part m ρ c (nxt c)) true) (v2 v5 v7 v253 : BitVec 32) {Q : _ → sProp 𝕄} :
    recs m ρ K ⊢ iprop(res c T -∗ ready 0 c -∗ room 0 c -∗ room 6 c -∗ Ow c (owedL c [0, 6, 1, 7, 2, 8, 3, 9, 4, 10, 5, 11])
        -∗ (∀ v282 : BitVec 32, res c T -∗ flying 0 c -∗ has c (sM 6) (qs 6) (out m ρ 6 c) -∗ Ow c (owedL c [6, 1, 7, 2, 8, 3, 9, 4, 10, 5, 11]) -∗ Q ⟨v282, 0#32⟩)
        -∗ WP c (k0_part7 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 v7 v253) Q) := by
  simp only [k0_part7_eq_skeleton]; unfold k0_part7_skel
  simp only [Prog.lift, Prog.bind_op, Prog.bind_ret, Prog.pure_eq_ret]
  unfold room ready
  iintro #HR HT ⟨Hu0, Ht0⟩ ⟨%w0, Hm0⟩ ⟨%w6, Hm6⟩ HO Hk
  iapply (wp_load_tile c T (chunkAt false 0 c) false (k0_off9 c 0#32) (at9_0 c)) $$ HT
  iintro HT
  iapply (wp_fill c 0 (Memref.whole cc0_scratch0) 0 rfl rfl ![0, 0, 0] rfl w0 _ (out m ρ 0 c) ((pay22_eq _).trans (congrArg rnd h0))) $$ Hm0
  iintro Hs
  iapply (wp_start m ρ K 0 [6, 1, 7, 2, 8, 3, 9, 4, 10, 5, 11] c _ (dev_of c k0_dev3 k0_dev3_lt nxt k0_dev3_eq) _ _ _ _ rfl rfl rfl rfl) $$ HR Hu0 Ht0 Hs HO
  iintro Hf0 HO
  iapply (wp_load_tile c T (chunkAt true 0 c) true (k0_off10 c 0#32) (at10_0 c)) $$ HT
  iintro HT
  iapply (wp_fill c 6 (Memref.whole cc0_scratch1) 0 rfl rfl ![0, 0, 0] rfl w6 _ (out m ρ 6 c) ((pay23_eq _).trans (congrArg rnd h1))) $$ Hm6
  iintro Hs
  iapply (wp_done c)
  iapply Hk $$ %_ HT Hf0 Hs HO

/-- The second message of hop 0 sent; the third chunk's inputs loaded. -/
theorem part8 (v2 : BitVec 32) (v15 : IVec S1x16 32) (v282 c0 : BitVec 32) {Q : _ → sProp 𝕄} :
    recs m ρ K ⊢ iprop(ready 6 c -∗ has c (sM 6) (qs 6) (out m ρ 6 c) -∗ ins m ρ c -∗ Ow c (owedL c [6, 1, 7, 2, 8, 3, 9, 4, 10, 5, 11])
        -∗ (∀ v295 : BitVec 32, flying 6 c -∗ ins m ρ c -∗ Ow c (owedL c [1, 7, 2, 8, 3, 9, 4, 10, 5, 11]) -∗ Q ⟨v295, k0_pay24 (xRows m ρ c (opp c)), k0_pay25 (iRows m ρ c (opp c) 0), k0_pay26 (iRows m ρ c (opp c) 1),
            k0_pay27 v15 (xRows m ρ c (opp c)) (wS m ρ c) (iRows m ρ c (opp c) 0) (iRows m ρ c (opp c) 1)⟩)
        -∗ WP c (k0_part8 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v15 v282 c0) Q) := by
  simp only [k0_part8_eq_skeleton]; unfold k0_part8_skel
  simp only [Prog.lift, Prog.bind_op, Prog.bind_ret, Prog.pure_eq_ret]
  unfold ready
  iintro #HR ⟨Hu6, Ht6⟩ Hs Hi HO Hk
  iapply (wp_start m ρ K 6 [1, 7, 2, 8, 3, 9, 4, 10, 5, 11] c _ (dev_of c k0_dev4 k0_dev4_lt prv k0_dev4_eq) _ _ _ _ rfl rfl rfl rfl) $$ HR Hu6 Ht6 Hs HO
  iintro Hf6 HO
  iapply (wp_load_x m ρ c (opp c) (k0_off1 c 2#32) (at1_opp c)) $$ Hi
  iintro Hi
  iapply (wp_load_w m ρ c) $$ Hi
  iintro Hi
  iapply (wp_load_i m ρ c (opp c) (k0_off2 c 2#32) 0 (at2_opp c)) $$ Hi
  iintro Hi
  iapply (wp_load_i m ρ c (opp c) (k0_off3 c 2#32) 1 (at3_opp c)) $$ Hi
  iintro Hi
  iapply (wp_done c)
  iapply Hk $$ %_ Hf6 Hi HO

/-- The last chunk stored; the first landing awaited and read. -/
theorem part13 (T : Dev nD → Bool → Tile F) (v2 v7 : BitVec 32) (v14 : FVec F S4x512x1024 .bf16) (v409 : BitVec 32)
    (v412 v421 v441 v443 v501 v503 v505 : _) (hT : setChunk T c (k0_pay41 v14 v412 v421 v441 v443 v501 v503 v505) = T₁ m ρ c) {Q : _ → sProp 𝕄} :
    recs m ρ K ⊢ iprop(res c T -∗ coming 0 c -∗ Ow c (owedL c [1, 7, 2, 8, 3, 9, 4, 10, 5, 11])
        -∗ (∀ u : Vec F S1x512x512 .bf16, ⌜shapeCast S512x512 u sc3 = inn m ρ 0 c⌝ -∗ res c (T₁ m ρ c) -∗ arrived m ρ 0 fullShare c -∗ Ow c (owedL c [1, 7, 2, 8, 3, 9, 4, 10, 5, 11]) -∗ Q ⟨k0_pay42 (T₁ m ρ c (chunkAt false 1 c) false), k0_pay43 u⟩)
        -∗ WP c (k0_part13 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v7 v14 v409 v412 v421 v441 v443 v501 v503 v505) Q) := by
  simp only [k0_part13_eq_skeleton]; unfold k0_part13_skel
  simp only [Prog.lift, Prog.bind_op, Prog.bind_ret, Prog.pure_eq_ret]
  unfold arrived
  iintro #HR HT Hc0 HO Hk
  iapply (wp_skip c T) $$ HT
  iintro %_v HT
  iapply (wp_store_chunk c T c (k0_off14 c) (k0_off14_eq c)) $$ HT
  rw [hT]
  iintro HT
  iapply (wp_landed m ρ K 0 [1, 7, 2, 8, 3, 9, 4, 10, 5, 11] c (by decide) _ rfl _ _ rfl) $$ HR Hc0 HO
  iintro Hz0 Hr0 HO
  iapply (wp_load_tile c (T₁ m ρ c) (chunkAt false 1 c) false (k0_off9 c 1#32) (at9_1 c)) $$ HT
  iintro HT
  iapply (wp_peek c 0 (Memref.whole cc0_scratch2) 0 rfl ![0, 0, 0] rfl fullShare (inn m ρ 0 c)) $$ Hr0
  iintro %u0 %hu0 Hr0
  iapply (wp_done c)
  iapply Hk $$ %_ %hu0 HT [Hz0 Hr0] HO
  · isplitl [Hz0] <;> iassumption

/-- Hop 1 of the first direction sent; the second direction's first landing awaited. -/
theorem part14 (v2 v5 v7 : BitVec 32) (v538 v540 : _) (hw : shapeCast S512x512 (k0_pay44 v538 v540) sc3 = out m ρ 1 c) {Q : _ → sProp 𝕄} :
    recs m ρ K ⊢ iprop(ready 1 c -∗ room 1 c -∗ coming 6 c -∗ Ow c (owedL c [1, 7, 2, 8, 3, 9, 4, 10, 5, 11])
        -∗ (flying 1 c -∗ arrived m ρ 6 fullShare c -∗ Ow c (owedL c [7, 2, 8, 3, 9, 4, 10, 5, 11]) -∗ Q ⟨⟩)
        -∗ WP c (k0_part14 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 v7 v538 v540) Q) := by
  simp only [k0_part14_eq_skeleton]; unfold k0_part14_skel
  simp only [Prog.lift, Prog.bind_op, Prog.bind_ret, Prog.pure_eq_ret]
  unfold room arrived ready
  iintro #HR ⟨Hu1, Ht1⟩ ⟨%w1, Hm1⟩ Hc6 HO Hk
  iapply (wp_fill c 1 (Memref.whole cc0_scratch0) 1 rfl rfl ![1, 0, 0] rfl w1 _ (out m ρ 1 c) hw) $$ Hm1
  iintro Hs
  iapply (wp_start m ρ K 1 [7, 2, 8, 3, 9, 4, 10, 5, 11] c _ (dev_of c k0_dev5 k0_dev5_lt nxt k0_dev5_eq) _ _ _ _ rfl rfl rfl rfl) $$ HR Hu1 Ht1 Hs HO
  iintro Hf1 HO
  iapply (wp_landed m ρ K 6 [7, 2, 8, 3, 9, 4, 10, 5, 11] c (by decide) _ rfl _ _ rfl) $$ HR Hc6 HO
  iintro Hz6 Hr6 HO
  iapply (wp_done c)
  iapply Hk $$ Hf1 [Hz6 Hr6] HO
  · isplitl [Hz6] <;> iassumption

/-- Hop 1 of the second direction sent; the first direction's landing of it awaited. -/
theorem part15 (v2 v5 v7 : BitVec 32) {Q : _ → sProp 𝕄} :
    recs m ρ K ⊢ iprop(res c (T₁ m ρ c) -∗ arrived m ρ 6 fullShare c -∗ ready 7 c -∗ room 7 c -∗ coming 1 c -∗ Ow c (owedL c [7, 2, 8, 3, 9, 4, 10, 5, 11])
        -∗ (∀ v598 : BitVec 32, res c (T₁ m ρ c) -∗ arrived m ρ 6 fullShare c -∗ flying 7 c -∗ arrived m ρ 1 fullShare c -∗ Ow c (owedL c [2, 8, 3, 9, 4, 10, 5, 11]) -∗ Q ⟨v598, 1#32⟩)
        -∗ WP c (k0_part15 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 v7) Q) := by
  simp only [k0_part15_eq_skeleton]; unfold k0_part15_skel
  simp only [Prog.lift, Prog.bind_op, Prog.bind_ret, Prog.pure_eq_ret]
  unfold room arrived ready
  iintro #HR HT ⟨Hz6, Hr6⟩ ⟨Hu7, Ht7⟩ ⟨%w7, Hm7⟩ Hc1 HO Hk
  iapply (wp_load_tile c (T₁ m ρ c) (chunkAt true 1 c) true (k0_off10 c 1#32) (at10_1 c)) $$ HT
  iintro HT
  iapply (wp_peek c 6 (Memref.whole cc0_scratch3) 0 rfl ![0, 0, 0] rfl fullShare (inn m ρ 6 c)) $$ Hr6
  iintro %u6 %hu6 Hr6
  iapply (wp_fill c 7 (Memref.whole cc0_scratch1) 1 rfl rfl ![1, 0, 0] rfl w7 _ (out m ρ 7 c) ((pay45_eq _ u6).trans (congrArg (fun v => rnd (plus _ v)) hu6))) $$ Hm7
  iintro Hs
  iapply (wp_start m ρ K 7 [2, 8, 3, 9, 4, 10, 5, 11] c _ (dev_of c k0_dev6 k0_dev6_lt prv k0_dev6_eq) _ _ _ _ rfl rfl rfl rfl) $$ HR Hu7 Ht7 Hs HO
  iintro Hf7 HO
  iapply (wp_landed m ρ K 1 [2, 8, 3, 9, 4, 10, 5, 11] c (by decide) _ rfl _ _ rfl) $$ HR Hc1 HO
  iintro Hz1 Hr1 HO
  iapply (wp_done c)
  iapply Hk $$ %_ HT [Hz6 Hr6] Hf7 [Hz1 Hr1] HO
  · isplitl [Hz6] <;> iassumption
  · isplitl [Hz1] <;> iassumption

/-- Hop 2 of the first direction sent. -/
theorem part16 (v5 v7 v598 c1 : BitVec 32) {Q : _ → sProp 𝕄} :
    recs m ρ K ⊢ iprop(res c (T₁ m ρ c) -∗ arrived m ρ 1 fullShare c -∗ ready 2 c -∗ room 2 c -∗ Ow c (owedL c [2, 8, 3, 9, 4, 10, 5, 11])
        -∗ (res c (T₁ m ρ c) -∗ arrived m ρ 1 fullShare c -∗ flying 2 c -∗ Ow c (owedL c [8, 3, 9, 4, 10, 5, 11]) -∗ Q ⟨⟩)
        -∗ WP c (k0_part16 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v5 v7 v598 c1) Q) := by
  simp only [k0_part16_eq_skeleton]; unfold k0_part16_skel
  simp only [Prog.lift, Prog.bind_op, Prog.bind_ret, Prog.pure_eq_ret]
  unfold room arrived ready
  iintro #HR HT ⟨Hz1, Hr1⟩ ⟨Hu2, Ht2⟩ ⟨%w2, Hm2⟩ HO Hk
  iapply (wp_load_tile c (T₁ m ρ c) (chunkAt false 2 c) false (k0_off9 c 2#32) (at9_2 c)) $$ HT
  iintro HT
  iapply (wp_peek c 1 (Memref.whole cc0_scratch2) 1 rfl ![1, 0, 0] rfl fullShare (inn m ρ 1 c)) $$ Hr1
  iintro %u1 %hu1 Hr1
  iapply (wp_fill c 2 (Memref.whole cc0_scratch0) 2 rfl rfl ![2, 0, 0] rfl w2 _ (out m ρ 2 c) ((pay46_eq _ u1).trans (congrArg (fun v => rnd (plus _ v)) hu1))) $$ Hm2
  iintro Hs
  iapply (wp_start m ρ K 2 [8, 3, 9, 4, 10, 5, 11] c _ (dev_of c k0_dev7 k0_dev7_lt nxt k0_dev7_eq) _ _ _ _ rfl rfl rfl rfl) $$ HR Hu2 Ht2 Hs HO
  iintro Hf2 HO
  iapply (wp_done c)
  iapply Hk $$ HT [Hz1 Hr1] Hf2 HO
  · isplitl [Hz1] <;> iassumption

/-- Hop 2 of the second direction sent. -/
theorem part17 (v2 v5 v7 : BitVec 32) {Q : _ → sProp 𝕄} :
    recs m ρ K ⊢ iprop(res c (T₁ m ρ c) -∗ coming 7 c -∗ ready 8 c -∗ room 8 c -∗ Ow c (owedL c [8, 3, 9, 4, 10, 5, 11])
        -∗ (∀ v657 : BitVec 32, res c (T₁ m ρ c) -∗ arrived m ρ 7 fullShare c -∗ flying 8 c -∗ Ow c (owedL c [3, 9, 4, 10, 5, 11]) -∗ Q v657)
        -∗ WP c (k0_part17 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 v7) Q) := by
  simp only [k0_part17_eq_skeleton]; unfold k0_part17_skel
  simp only [Prog.lift, Prog.bind_op, Prog.bind_ret, Prog.pure_eq_ret]
  unfold room arrived ready
  iintro #HR HT Hc7 ⟨Hu8, Ht8⟩ ⟨%w8, Hm8⟩ HO Hk
  iapply (wp_landed m ρ K 7 [8, 3, 9, 4, 10, 5, 11] c (by decide) _ rfl _ _ rfl) $$ HR Hc7 HO
  iintro Hz7 Hr7 HO
  iapply (wp_load_tile c (T₁ m ρ c) (chunkAt true 2 c) true (k0_off10 c 2#32) (at10_2 c)) $$ HT
  iintro HT
  iapply (wp_peek c 7 (Memref.whole cc0_scratch3) 1 rfl ![1, 0, 0] rfl fullShare (inn m ρ 7 c)) $$ Hr7
  iintro %u7 %hu7 Hr7
  iapply (wp_fill c 8 (Memref.whole cc0_scratch1) 2 rfl rfl ![2, 0, 0] rfl w8 _ (out m ρ 8 c) ((pay47_eq _ u7).trans (congrArg (fun v => rnd (plus _ v)) hu7))) $$ Hm8
  iintro Hs
  iapply (wp_start m ρ K 8 [3, 9, 4, 10, 5, 11] c _ (dev_of c k0_dev8 k0_dev8_lt prv k0_dev8_eq) _ _ _ _ rfl rfl rfl rfl) $$ HR Hu8 Ht8 Hs HO
  iintro Hf8 HO
  iapply (wp_done c)
  iapply Hk $$ %_ HT [Hz7 Hr7] Hf8 HO
  · isplitl [Hz7] <;> iassumption

/-- The first direction's own chunk summed, and hop 3 sent. -/
theorem part18 (v2 v7 v657 : BitVec 32) {Q : _ → sProp 𝕄} :
    recs m ρ K ⊢ iprop(res c (T₁ m ρ c) -∗ coming 2 c -∗ ready 3 c -∗ room 3 c -∗ Ow c (owedL c [3, 9, 4, 10, 5, 11])
        -∗ (∀ w : Tile F, ⌜w = red m ρ false 3 c⌝ -∗ res c (T₁ m ρ c) -∗ arrived m ρ 2 fullShare c -∗ flying 3 c -∗ Ow c (owedL c [9, 4, 10, 5, 11]) -∗ Q w)
        -∗ WP c (k0_part18 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v7 v657) Q) := by
  simp only [k0_part18_eq_skeleton]; unfold k0_part18_skel
  simp only [Prog.lift, Prog.bind_op, Prog.bind_ret, Prog.pure_eq_ret]
  unfold room arrived ready
  iintro #HR HT Hc2 ⟨Hu3, Ht3⟩ ⟨%w3, Hm3⟩ HO Hk
  iapply (wp_landed m ρ K 2 [3, 9, 4, 10, 5, 11] c (by decide) _ rfl _ _ rfl) $$ HR Hc2 HO
  iintro Hz2 Hr2 HO
  iapply (wp_load_tile c (T₁ m ρ c) (chunkAt false 3 c) false (k0_off15 c) (at15 c)) $$ HT
  iintro HT
  iapply (wp_peek c 2 (Memref.whole cc0_scratch2) 2 rfl ![2, 0, 0] rfl fullShare (inn m ρ 2 c)) $$ Hr2
  iintro %u2 %hu2 Hr2
  iapply (wp_fill c 3 (Memref.whole cc0_scratch0) 3 rfl rfl ![3, 0, 0] rfl w3 _ (out m ρ 3 c) ((pay49_eq _ u2).trans (congrArg (fun v => rnd (plus _ v)) hu2))) $$ Hm3
  iintro Hs
  iapply (wp_start m ρ K 3 [9, 4, 10, 5, 11] c _ (dev_of c k0_dev9 k0_dev9_lt nxt k0_dev9_eq) _ _ _ _ rfl rfl rfl rfl) $$ HR Hu3 Ht3 Hs HO
  iintro Hf3 HO
  iapply (wp_skip c (T₁ m ρ c)) $$ HT
  iintro %_v HT
  iapply (wp_done c)
  iapply Hk $$ %_ %(show k0_pay48 (T₁ m ρ c (chunkAt false 3 c) false) u2 = red m ρ false 3 c from (pay48_eq _ u2).trans (congrArg (plus _) hu2)) HT [Hz2 Hr2] Hf3 HO
  · isplitl [Hz2] <;> iassumption

/-- The first direction's own chunk stored; the second direction's summed and its message of hop 3 written. -/
theorem part19 (T : Dev nD → Bool → Tile F) (v2 v5 : BitVec 32) (w : Tile F)
    (hT : setTile T (chunkAt false 3 c) false w (chunkAt true 3 c) true = half (part m ρ c (chunkAt true 3 c)) true) {Q : _ → sProp 𝕄} :
    recs m ρ K ⊢ iprop(res c T -∗ coming 8 c -∗ room 9 c -∗ Ow c (owedL c [9, 4, 10, 5, 11])
        -∗ (∀ w' : Tile F, ⌜w' = red m ρ true 3 c⌝ -∗ res c (setTile T (chunkAt false 3 c) false w) -∗ arrived m ρ 8 fullShare c -∗ has c (sM 9) (qs 9) (out m ρ 9 c) -∗ Ow c (owedL c [9, 4, 10, 5, 11]) -∗ Q w')
        -∗ WP c (k0_part19 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 w) Q) := by
  simp only [k0_part19_eq_skeleton]; unfold k0_part19_skel
  simp only [Prog.lift, Prog.bind_op, Prog.bind_ret, Prog.pure_eq_ret]
  unfold room arrived
  iintro #HR HT Hc8 ⟨%w9, Hm9⟩ HO Hk
  iapply (wp_store_tile c T (chunkAt false 3 c) false (k0_off15 c) (at15 c)) $$ HT
  iintro HT
  iapply (wp_landed m ρ K 8 [9, 4, 10, 5, 11] c (by decide) _ rfl _ _ rfl) $$ HR Hc8 HO
  iintro Hz8 Hr8 HO
  iapply (wp_load_tile c (setTile T (chunkAt false 3 c) false w) (chunkAt true 3 c) true (k0_off16 c) (at16 c)) $$ HT
  iintro HT
  iapply (wp_peek c 8 (Memref.whole cc0_scratch3) 2 rfl ![2, 0, 0] rfl fullShare (inn m ρ 8 c)) $$ Hr8
  iintro %u8 %hu8 Hr8
  iapply (wp_fill c 9 (Memref.whole cc0_scratch1) 3 rfl rfl ![3, 0, 0] rfl w9 _ (out m ρ 9 c) ((pay51_eq _ u8).trans (congrArg rnd (congrArg₂ plus hT hu8)))) $$ Hm9
  iintro Hs
  iapply (wp_done c)
  iapply Hk $$ %_ %((pay50_eq _ u8).trans (congrArg₂ plus hT hu8)) HT [Hz8 Hr8] Hs HO
  · isplitl [Hz8] <;> iassumption

/-- Hop 3 of the second direction sent and its own chunk stored; the first finished chunk landed and sent on. -/
theorem part20 (T : Dev nD → Bool → Tile F) (v2 v7 : BitVec 32) (w : Tile F) {Q : _ → sProp 𝕄} :
    recs m ρ K ⊢ iprop(res c T -∗ ready 9 c -∗ has c (sM 9) (qs 9) (out m ρ 9 c) -∗ coming 3 c -∗ ready 4 c -∗ Ow c (owedL c [9, 4, 10, 5, 11])
        -∗ (∀ (v744 : BitVec 32) (u : Vec F S1x512x512 .bf16), ⌜shapeCast S512x512 u sc3 = inn m ρ 3 c⌝ -∗ res c (setTile T (chunkAt true 3 c) true w) -∗ flying 9 c -∗ arrived m ρ 3 (PosShare.right fullShare) c -∗ flying 4 c -∗ Ow c (owedL c [10, 5, 11]) -∗ Q ⟨v744, u⟩)
        -∗ WP c (k0_part20 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v7 w) Q) := by
  simp only [k0_part20_eq_skeleton]; unfold k0_part20_skel
  simp only [Prog.lift, Prog.bind_op, Prog.bind_ret, Prog.pure_eq_ret]
  unfold arrived ready
  iintro #HR HT ⟨Hu9, Ht9⟩ Hs Hc3 ⟨Hu4, Ht4⟩ HO Hk
  iapply (wp_start m ρ K 9 [4, 10, 5, 11] c _ (dev_of c k0_dev10 k0_dev10_lt prv k0_dev10_eq) _ _ _ _ rfl rfl rfl rfl) $$ HR Hu9 Ht9 Hs HO
  iintro Hf9 HO
  iapply (wp_skip c T) $$ HT
  iintro %_v HT
  iapply (wp_store_tile c T (chunkAt true 3 c) true (k0_off16 c) (at16 c)) $$ HT
  iintro HT
  iapply (wp_landed m ρ K 3 [4, 10, 5, 11] c (by decide) _ rfl _ _ rfl) $$ HR Hc3 HO
  iintro Hz3 Hr3 HO
  ihave Hl := (lend m ρ c 3 4 rfl rfl rfl) $$ Hr3
  icases Hl with ⟨Hs, Hr3⟩
  iapply (wp_start m ρ K 4 [10, 5, 11] c _ (dev_of c k0_dev11 k0_dev11_lt nxt k0_dev11_eq) _ _ _ _ rfl rfl rfl rfl) $$ HR Hu4 Ht4 Hs HO
  iintro Hf4 HO
  iapply (wp_peek c 3 (Memref.whole cc0_scratch2) 3 rfl ![3, 0, 0] rfl (PosShare.right fullShare) (inn m ρ 3 c)) $$ Hr3
  iintro %u3 %hu3 Hr3
  iapply (wp_done c)
  iapply Hk $$ %_ %_ %hu3 HT Hf9 [Hz3 Hr3] Hf4 HO
  · isplitl [Hz3] <;> iassumption

/-- The first finished chunk stored; the second direction's landed and sent on. -/
theorem part21 (T : Dev nD → Bool → Tile F) (v2 v5 v744 : BitVec 32) (u : Vec F S1x512x512 .bf16) (hu : shapeCast S512x512 u sc3 = inn m ρ 3 c) {Q : _ → sProp 𝕄} :
    recs m ρ K ⊢ iprop(res c T -∗ coming 9 c -∗ ready 10 c -∗ Ow c (owedL c [10, 5, 11])
        -∗ (∀ (v771 : BitVec 32) (w : Tile F), ⌜w = wid (inn m ρ 9 c)⌝ -∗ res c (setTile T (chunkAt false 0 c) false (wid (inn m ρ 3 c))) -∗ arrived m ρ 9 (PosShare.right fullShare) c -∗ flying 10 c -∗ Ow c (owedL c [5, 11]) -∗ Q ⟨v771, w⟩)
        -∗ WP c (k0_part21 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 v744 u) Q) := by
  simp only [k0_part21_eq_skeleton]; unfold k0_part21_skel
  simp only [Prog.lift, Prog.bind_op, Prog.bind_ret, Prog.pure_eq_ret]
  unfold arrived ready
  iintro #HR HT Hc9 ⟨Hu10, Ht10⟩ HO Hk
  iapply (wp_skip c T) $$ HT
  iintro %_v HT
  iapply (wp_store_tile c T (chunkAt false 0 c) false (k0_off9 c 0#32) (at9_0 c)) $$ HT
  iintro HT
  rw [show k0_pay52 u = wid (inn m ρ 3 c) from congrArg wid hu]
  iapply (wp_landed m ρ K 9 [10, 5, 11] c (by decide) _ rfl _ _ rfl) $$ HR Hc9 HO
  iintro Hz9 Hr9 HO
  ihave Hl := (lend m ρ c 9 10 rfl rfl rfl) $$ Hr9
  icases Hl with ⟨Hs, Hr9⟩
  iapply (wp_start m ρ K 10 [5, 11] c _ (dev_of c k0_dev12 k0_dev12_lt prv k0_dev12_eq) _ _ _ _ rfl rfl rfl rfl) $$ HR Hu10 Ht10 Hs HO
  iintro Hf10 HO
  iapply (wp_peek c 9 (Memref.whole cc0_scratch3) 3 rfl ![3, 0, 0] rfl (PosShare.right fullShare) (inn m ρ 9 c)) $$ Hr9
  iintro %u9 %hu9 Hr9
  iapply (wp_done c)
  iapply Hk $$ %_ %_ %(show k0_pay53 u9 = wid (inn m ρ 9 c) from congrArg wid hu9) HT [Hz9 Hr9] Hf10 HO
  · isplitl [Hz9] <;> iassumption

/-- The next finished chunk of the first direction landed and sent on. -/
theorem part22 (T : Dev nD → Bool → Tile F) (v2 v7 v771 : BitVec 32) (w : Tile F) {Q : _ → sProp 𝕄} :
    recs m ρ K ⊢ iprop(res c T -∗ coming 4 c -∗ ready 5 c -∗ Ow c (owedL c [5, 11])
        -∗ (∀ (v799 : BitVec 32) (w' : Tile F), ⌜w' = wid (inn m ρ 4 c)⌝ -∗ res c (setTile T (chunkAt true 0 c) true w) -∗ arrived m ρ 4 (PosShare.right fullShare) c -∗ flying 5 c -∗ Ow c (owedL c [11]) -∗ Q ⟨v799, w'⟩)
        -∗ WP c (k0_part22 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v7 v771 w) Q) := by
  simp only [k0_part22_eq_skeleton]; unfold k0_part22_skel
  simp only [Prog.lift, Prog.bind_op, Prog.bind_ret, Prog.pure_eq_ret]
  unfold arrived ready
  iintro #HR HT Hc4 ⟨Hu5, Ht5⟩ HO Hk
  iapply (wp_skip c T) $$ HT
  iintro %_v HT
  iapply (wp_store_tile c T (chunkAt true 0 c) true (k0_off10 c 0#32) (at10_0 c)) $$ HT
  iintro HT
  iapply (wp_landed m ρ K 4 [5, 11] c (by decide) _ rfl _ _ rfl) $$ HR Hc4 HO
  iintro Hz4 Hr4 HO
  ihave Hl := (lend m ρ c 4 5 rfl rfl rfl) $$ Hr4
  icases Hl with ⟨Hs, Hr4⟩
  iapply (wp_start m ρ K 5 [11] c _ (dev_of c k0_dev13 k0_dev13_lt nxt k0_dev13_eq) _ _ _ _ rfl rfl rfl rfl) $$ HR Hu5 Ht5 Hs HO
  iintro Hf5 HO
  iapply (wp_peek c 4 (Memref.whole cc0_scratch2) 4 rfl ![4, 0, 0] rfl (PosShare.right fullShare) (inn m ρ 4 c)) $$ Hr4
  iintro %u4 %hu4 Hr4
  iapply (wp_done c)
  iapply Hk $$ %_ %_ %(show k0_pay54 u4 = wid (inn m ρ 4 c) from congrArg wid hu4) HT [Hz4 Hr4] Hf5 HO
  · isplitl [Hz4] <;> iassumption

/-- The next finished chunk of the second direction landed and sent on. -/
theorem part23 (T : Dev nD → Bool → Tile F) (v2 v5 v799 : BitVec 32) (w : Tile F) {Q : _ → sProp 𝕄} :
    recs m ρ K ⊢ iprop(res c T -∗ coming 10 c -∗ ready 11 c -∗ Ow c (owedL c [11])
        -∗ (∀ (v830 : BitVec 32) (w' : Tile F), ⌜w' = wid (inn m ρ 10 c)⌝ -∗ res c (setTile T (chunkAt false 1 c) false w) -∗ arrived m ρ 10 (PosShare.right fullShare) c -∗ flying 11 c -∗ Ow c (owedL c []) -∗ Q ⟨w', v830⟩)
        -∗ WP c (k0_part23 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 v799 w) Q) := by
  simp only [k0_part23_eq_skeleton]; unfold k0_part23_skel
  simp only [Prog.lift, Prog.bind_op, Prog.bind_ret, Prog.pure_eq_ret]
  unfold arrived ready
  iintro #HR HT Hc10 ⟨Hu11, Ht11⟩ HO Hk
  iapply (wp_skip c T) $$ HT
  iintro %_v HT
  iapply (wp_store_tile c T (chunkAt false 1 c) false (k0_off9 c 1#32) (at9_1 c)) $$ HT
  iintro HT
  iapply (wp_landed m ρ K 10 [11] c (by decide) _ rfl _ _ rfl) $$ HR Hc10 HO
  iintro Hz10 Hr10 HO
  ihave Hl := (lend m ρ c 10 11 rfl rfl rfl) $$ Hr10
  icases Hl with ⟨Hs, Hr10⟩
  iapply (wp_start m ρ K 11 [] c _ (dev_of c k0_dev14 k0_dev14_lt prv k0_dev14_eq) _ _ _ _ rfl rfl rfl rfl) $$ HR Hu11 Ht11 Hs HO
  iintro Hf11 HO
  iapply (wp_peek c 10 (Memref.whole cc0_scratch3) 4 rfl ![4, 0, 0] rfl (PosShare.right fullShare) (inn m ρ 10 c)) $$ Hr10
  iintro %u10 %hu10 Hr10
  iapply (wp_done c)
  iapply Hk $$ %_ %_ %(show k0_pay55 u10 = wid (inn m ρ 10 c) from congrArg wid hu10) HT [Hz10 Hr10] Hf11 HO
  · isplitl [Hz10] <;> iassumption

/-- The last finished chunk of the first direction landed and stored. -/
theorem part24 (T : Dev nD → Bool → Tile F) (v2 v5 v7 : BitVec 32) (w : Tile F) (v830 : BitVec 32) {Q : _ → sProp 𝕄} :
    recs m ρ K ⊢ iprop(res c T -∗ coming 5 c -∗ Ow c (owedL c [])
        -∗ (res c (setTile (setTile T (chunkAt true 1 c) true w) (chunkAt false 2 c) false (wid (inn m ρ 5 c))) -∗ arrived m ρ 5 fullShare c -∗ Ow c (owedL c []) -∗ Q ⟨⟩)
        -∗ WP c (k0_part24 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v5 v7 w v830) Q) := by
  simp only [k0_part24_eq_skeleton]; unfold k0_part24_skel
  simp only [Prog.lift, Prog.bind_op, Prog.bind_ret, Prog.pure_eq_ret]
  unfold arrived
  iintro #HR HT Hc5 HO Hk
  iapply (wp_skip c T) $$ HT
  iintro %_v HT
  iapply (wp_store_tile c T (chunkAt true 1 c) true (k0_off10 c 1#32) (at10_1 c)) $$ HT
  iintro HT
  iapply (wp_landed m ρ K 5 [] c (by decide) _ rfl _ _ rfl) $$ HR Hc5 HO
  iintro Hz5 Hr5 HO
  iapply (wp_peek c 5 (Memref.whole cc0_scratch2) 5 rfl ![5, 0, 0] rfl fullShare (inn m ρ 5 c)) $$ Hr5
  iintro %u5 %hu5 Hr5
  iapply (wp_skip c (setTile T (chunkAt true 1 c) true w)) $$ HT
  iintro %_v HT
  iapply (wp_store_tile c (setTile T (chunkAt true 1 c) true w) (chunkAt false 2 c) false (k0_off9 c 2#32) (at9_2 c)) $$ HT
  iintro HT
  rw [show k0_pay56 u5 = wid (inn m ρ 5 c) from congrArg wid hu5]
  iapply (wp_done c)
  iapply Hk $$ HT [Hz5 Hr5] HO
  · isplitl [Hz5] <;> iassumption

/-- The last landing stored; the first two sends awaited. -/
theorem part25 (T : Dev nD → Bool → Tile F) (v2 : BitVec 32) {Q : _ → sProp 𝕄} :
    recs m ρ K ⊢ iprop(res c T -∗ coming 11 c -∗ flying 0 c -∗ flying 1 c -∗ Ow c (owedL c [])
        -∗ (res c (setTile T (chunkAt true 2 c) true (wid (inn m ρ 11 c))) -∗ arrived m ρ 11 fullShare c -∗ back m ρ 0 c -∗ back m ρ 1 c -∗ Ow c 0 -∗ Q ⟨⟩)
        -∗ WP c (k0_part25 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2) Q) := by
  simp only [k0_part25_eq_skeleton]; unfold k0_part25_skel
  simp only [Prog.lift, Prog.bind_op, Prog.bind_ret, Prog.pure_eq_ret]
  unfold arrived back
  iintro #HR HT Hc11 Hf0 Hf1 HO Hk
  iapply (wp_landed m ρ K 11 [] c (by decide) _ rfl _ _ rfl) $$ HR Hc11 HO
  iintro Hz11 Hr11 HO
  iapply (wp_peek c 11 (Memref.whole cc0_scratch3) 5 rfl ![5, 0, 0] rfl fullShare (inn m ρ 11 c)) $$ Hr11
  iintro %u11 %hu11 Hr11
  iapply (wp_skip c T) $$ HT
  iintro %_v HT
  iapply (wp_store_tile c T (chunkAt true 2 c) true (k0_off10 c 2#32) (at10_2 c)) $$ HT
  iintro HT
  rw [show k0_pay57 u11 = wid (inn m ρ 11 c) from congrArg wid hu11]
  simp only [owedL]
  iapply (wp_sent m ρ K 0 c _ rfl _ _ rfl) $$ HR Hf0 HO
  iintro Hz0 Hb0 HO
  iapply (wp_sent m ρ K 1 c _ rfl _ _ rfl) $$ HR Hf1 HO
  iintro Hz1 Hb1 HO
  iapply (wp_done c)
  iapply Hk $$ HT [Hz11 Hr11] [Hz0 Hb0] [Hz1 Hb1] HO
  · isplitl [Hz11] <;> iassumption
  · isplitl [Hz0] <;> iassumption
  · isplitl [Hz1] <;> iassumption

/-- Four sends awaited. -/
theorem part26 {Q : _ → sProp 𝕄} :
    recs m ρ K ⊢ iprop(flying 2 c -∗ flying 3 c -∗ flying 4 c -∗ flying 5 c -∗ Ow c 0
        -∗ (back m ρ 2 c -∗ back m ρ 3 c -∗ back m ρ 4 c -∗ back m ρ 5 c -∗ Ow c 0 -∗ Q ⟨⟩)
        -∗ WP c (k0_part26 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q) := by
  simp only [k0_part26_eq_skeleton]; unfold k0_part26_skel
  simp only [Prog.lift, Prog.bind_op, Prog.bind_ret, Prog.pure_eq_ret]
  unfold back
  iintro #HR Hf2 Hf3 Hf4 Hf5 HO Hk
  iapply (wp_sent m ρ K 2 c _ rfl _ _ rfl) $$ HR Hf2 HO
  iintro Hz2 Hb2 HO
  iapply (wp_sent m ρ K 3 c _ rfl _ _ rfl) $$ HR Hf3 HO
  iintro Hz3 Hb3 HO
  iapply (wp_sent m ρ K 4 c _ rfl _ _ rfl) $$ HR Hf4 HO
  iintro Hz4 Hb4 HO
  iapply (wp_sent m ρ K 5 c _ rfl _ _ rfl) $$ HR Hf5 HO
  iintro Hz5 Hb5 HO
  iapply (wp_done c)
  iapply Hk $$ [Hz2 Hb2] [Hz3 Hb3] [Hz4 Hb4] [Hz5 Hb5] HO
  · isplitl [Hz2] <;> iassumption
  · isplitl [Hz3] <;> iassumption
  · isplitl [Hz4] <;> iassumption
  · isplitl [Hz5] <;> iassumption

/-- Four sends awaited. -/
theorem part27 {Q : _ → sProp 𝕄} :
    recs m ρ K ⊢ iprop(flying 6 c -∗ flying 7 c -∗ flying 8 c -∗ flying 9 c -∗ Ow c 0
        -∗ (back m ρ 6 c -∗ back m ρ 7 c -∗ back m ρ 8 c -∗ back m ρ 9 c -∗ Ow c 0 -∗ Q ⟨⟩)
        -∗ WP c (k0_part27 (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 ) Q) := by
  simp only [k0_part27_eq_skeleton]; unfold k0_part27_skel
  simp only [Prog.lift, Prog.bind_op, Prog.bind_ret, Prog.pure_eq_ret]
  unfold back
  iintro #HR Hf6 Hf7 Hf8 Hf9 HO Hk
  iapply (wp_sent m ρ K 6 c _ rfl _ _ rfl) $$ HR Hf6 HO
  iintro Hz6 Hb6 HO
  iapply (wp_sent m ρ K 7 c _ rfl _ _ rfl) $$ HR Hf7 HO
  iintro Hz7 Hb7 HO
  iapply (wp_sent m ρ K 8 c _ rfl _ _ rfl) $$ HR Hf8 HO
  iintro Hz8 Hb8 HO
  iapply (wp_sent m ρ K 9 c _ rfl _ _ rfl) $$ HR Hf9 HO
  iintro Hz9 Hb9 HO
  iapply (wp_done c)
  iapply Hk $$ [Hz6 Hb6] [Hz7 Hb7] [Hz8 Hb8] [Hz9 Hb9] HO
  · isplitl [Hz6] <;> iassumption
  · isplitl [Hz7] <;> iassumption
  · isplitl [Hz8] <;> iassumption
  · isplitl [Hz9] <;> iassumption

end Cert.KernelIdealRun

end
-- ==== Proof.KernelIdeal.Buffers.lean ====
module

public import proofs.«01_k».proof.Proof.KernelIdeal.Slots
public import Idealize.ShloMosaic.Lib.Ring

/-! # Buffers as their slots

A scratch buffer held whole is its slots held one by one, at any contents, and back. -/

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Generic
variable (c : Dev nD) {s : Shape} {NB : ℕ} (M : Memref sig .tc .vmem s .bf16) (R : Fin NB → Rect s) (hr : ∀ h a, (R h).stride a = 1)
  (sq : ∀ h, (R h).shape.Squeezes S512x512) (hM : M.view.set = Finset.univ)
  (hd : ∀ h h', h ≠ h' → Disjoint (R h).set (R h').set) (hcov : Finset.univ.biUnion (fun h => (R h).set) = Finset.univ)

/-- The elements of slot `h` of `M`. -/
def elems (h : Fin NB) : Finset M.view.ty.Idx := ((M.slice (R h) (hr h)).squeeze S512x512 (sq h)).view.set

theorem elems_eq (h : Fin NB) : elems M R hr sq h = (R h).set.map M.view.emb := by
  unfold elems
  simp only [Memref.view_squeeze, View.set_reshape, Memref.view_slice]
  exact View.set_slice _ _

include hd in
theorem elems_disjoint (h h' : Fin NB) (n : h ≠ h') : Disjoint (elems M R hr sq h) (elems M R hr sq h') := by
  rw [elems_eq, elems_eq]
  exact (Finset.disjoint_map _).mpr (hd h h' n)

include hM hcov in
theorem elems_cover : Finset.univ.biUnion (elems M R hr sq) = Finset.univ := by
  rw [← hM]
  ext i
  simp only [Finset.mem_biUnion, Finset.mem_univ, true_and, elems_eq]
  constructor
  · rintro ⟨h, hi⟩
    obtain ⟨j, -, rfl⟩ := Finset.mem_map.mp hi
    exact Finset.mem_map_of_mem _ (Finset.mem_univ j)
  · intro hi
    obtain ⟨j, -, rfl⟩ := Finset.mem_map.mp hi
    obtain ⟨h, -, hj⟩ := Finset.mem_biUnion.mp (hcov.symm ▸ Finset.mem_univ j)
    exact ⟨h, Finset.mem_map_of_mem _ hj⟩

include hM hd hcov in
/-- The buffer is its slots; -/
theorem split_slots (f : M.view.ty.Contents (Elt F)) :
    arr (F := F) c M f ⊢ bigSep (Finset.univ : Finset (Fin NB)) fun h =>
      iprop(∃ v : S512x512.Idx → Elt F .bf16, has c ((M.slice (R h) (hr h)).squeeze S512x512 (sq h)) fullShare v) := by
  iintro H
  ihave H := (Entails.of_eq (Ring.pointsTo_blocks (elems M R hr sq) (elems_disjoint M R hr sq hd) (elems_cover M R hr sq hM hcov) f)) $$ H
  have h1 : (bigSep (Finset.univ : Finset (Fin NB)) fun h => (M.view.loc (c : Thread nD τ) ↦[elems M R hr sq h]{fullShare} f : sProp 𝕄))
      ⊢ bigSep (Finset.univ : Finset (Fin NB)) fun h =>
        iprop(∃ v : S512x512.Idx → Elt F .bf16, has c ((M.slice (R h) (hr h)).squeeze S512x512 (sq h)) fullShare v) :=
    bigSep_mono fun h _ => by
      show (_ : sProp 𝕄) ⊢ _
      unfold has owns
      iintro H
      iexists (((M.slice (R h) (hr h)).squeeze S512x512 (sq h)).view.read (Elt F) f), f
      isplitr
      · ipureintro; rfl
      · iexact H
  iapply h1
  iexact H

include hM hd hcov in
/-- and the slots are the buffer. -/
theorem join_slots :
    (bigSep (Finset.univ : Finset (Fin NB)) fun h =>
      iprop(∃ v : S512x512.Idx → Elt F .bf16, has c ((M.slice (R h) (hr h)).squeeze S512x512 (sq h)) fullShare v)) ⊢ iprop(∃ f, arr (F := F) c M f) := by
  have h1 : (bigSep (Finset.univ : Finset (Fin NB)) fun h =>
        iprop(∃ v : S512x512.Idx → Elt F .bf16, has c ((M.slice (R h) (hr h)).squeeze S512x512 (sq h)) fullShare v))
      ⊢ bigSep (Finset.univ : Finset (Fin NB)) fun h => iprop(∃ f, (M.view.loc (c : Thread nD τ) ↦[elems M R hr sq h]{fullShare} f : sProp 𝕄)) :=
    bigSep_mono fun h _ => by
      show (_ : sProp 𝕄) ⊢ _
      unfold has owns
      iintro ⟨%v, %f, -, H⟩
      iexists f
      iexact H
  exact h1.trans (Ring.pointsTo_blocks_join_exists (elems M R hr sq) (elems_disjoint M R hr sq hd) (elems_cover M R hr sq hM hcov)
    (q := fullShare) (ℓ := M.view.loc (c : Thread nD τ)) (fun _ => (Classical.arbitrary (Elt F _))))
end Generic

section Rects

theorem rects6_disjoint (h h' : Fin 6) (n : h ≠ h') :
    Disjoint (Rect.unit (s := S6x512x512) ![h.val, 0, 0] S1x512x512.size (inb6 h)).set (Rect.unit (s := S6x512x512) ![h'.val, 0, 0] S1x512x512.size (inb6 h')).set :=
  Ring.lead_disjoint (s := S6x512x512) (0 : Fin 3) 1 (fun h : Fin 6 => ![h.val, 0, 0]) S1x512x512.size inb6 (fun b => (Nat.one_mul _).symm) rfl h h' n
theorem rects6_cover : Finset.univ.biUnion (fun h : Fin 6 => (Rect.unit (s := S6x512x512) ![h.val, 0, 0] S1x512x512.size (inb6 h)).set) = Finset.univ :=
  Ring.lead_cover (s := S6x512x512) (0 : Fin 3) 1 (fun h : Fin 6 => ![h.val, 0, 0]) S1x512x512.size inb6 (fun b => (Nat.one_mul _).symm)
    (by decide) rfl (by decide) rfl
theorem rects4_disjoint (h h' : Fin 4) (n : h ≠ h') :
    Disjoint (Rect.unit (s := S4x512x512) ![h.val, 0, 0] S1x512x512.size (inb4 h)).set (Rect.unit (s := S4x512x512) ![h'.val, 0, 0] S1x512x512.size (inb4 h')).set :=
  Ring.lead_disjoint (s := S4x512x512) (0 : Fin 3) 1 (fun h : Fin 4 => ![h.val, 0, 0]) S1x512x512.size inb4 (fun b => (Nat.one_mul _).symm) rfl h h' n
theorem rects4_cover : Finset.univ.biUnion (fun h : Fin 4 => (Rect.unit (s := S4x512x512) ![h.val, 0, 0] S1x512x512.size (inb4 h)).set) = Finset.univ :=
  Ring.lead_cover (s := S4x512x512) (0 : Fin 3) 1 (fun h : Fin 4 => ![h.val, 0, 0]) S1x512x512.size inb4 (fun b => (Nat.one_mul _).symm)
    (by decide) rfl (by decide) rfl

end Rects

section Buffers
variable (c : Dev nD)

/-- A six-slot buffer as its slots, at any contents; -/
theorem split6 (M : Memref sig .tc .vmem S6x512x512 .bf16) (hM : M.view.set = Finset.univ) :
    iprop(∃ f, arr (F := F) c M f) ⊢ bigSep (Finset.univ : Finset (Fin 6)) fun h => iprop(∃ v : S512x512.Idx → Elt F .bf16, has c (slot6 M h) fullShare v) := by
  iintro ⟨%f, H⟩
  iapply (split_slots c M _ (fun _ _ => rfl) (fun _ => squeezes_S1x512x512_S512x512) hM rects6_disjoint rects6_cover f)
  iexact H
theorem join6 (M : Memref sig .tc .vmem S6x512x512 .bf16) (hM : M.view.set = Finset.univ) :
    (bigSep (Finset.univ : Finset (Fin 6)) fun h => iprop(∃ v : S512x512.Idx → Elt F .bf16, has c (slot6 M h) fullShare v)) ⊢ iprop(∃ f, arr (F := F) c M f) :=
  join_slots c M _ (fun _ _ => rfl) (fun _ => squeezes_S1x512x512_S512x512) hM rects6_disjoint rects6_cover
/-- a four-slot buffer likewise. -/
theorem split4 (M : Memref sig .tc .vmem S4x512x512 .bf16) (hM : M.view.set = Finset.univ) :
    iprop(∃ f, arr (F := F) c M f) ⊢ bigSep (Finset.univ : Finset (Fin 4)) fun h => iprop(∃ v : S512x512.Idx → Elt F .bf16, has c (slot4 M h) fullShare v) := by
  iintro ⟨%f, H⟩
  iapply (split_slots c M _ (fun _ _ => rfl) (fun _ => squeezes_S1x512x512_S512x512) hM rects4_disjoint rects4_cover f)
  iexact H
theorem join4 (M : Memref sig .tc .vmem S4x512x512 .bf16) (hM : M.view.set = Finset.univ) :
    (bigSep (Finset.univ : Finset (Fin 4)) fun h => iprop(∃ v : S512x512.Idx → Elt F .bf16, has c (slot4 M h) fullShare v)) ⊢ iprop(∃ f, arr (F := F) c M f) :=
  join_slots c M _ (fun _ _ => rfl) (fun _ => squeezes_S1x512x512_S512x512) hM rects4_disjoint rects4_cover

/-- The six targets of a direction are the neighbour's six landing slots of that direction. -/
theorem targets_false : slots (F := F) false (nxt c) ⊢ iprop(target 0 c ∗ target 1 c ∗ target 2 c ∗ target 3 c ∗ target 4 c ∗ target 5 c) := by
  unfold slots
  rw [bigSep_univ_eq_bigSepL [0, 1, 2, 3, 4, 5] (by decide) (by decide)]
  simp only [bigSepL_cons_cons, bigSepL_singleton]
  exact Entails.refl _
theorem targets_true : slots (F := F) true (prv c) ⊢ iprop(target 6 c ∗ target 7 c ∗ target 8 c ∗ target 9 c ∗ target 10 c ∗ target 11 c) := by
  unfold slots
  rw [bigSep_univ_eq_bigSepL [0, 1, 2, 3, 4, 5] (by decide) (by decide)]
  simp only [bigSepL_cons_cons, bigSepL_singleton]
  exact Entails.refl _

/-- The send buffers as the rooms of the first four hops of each direction. -/
theorem rooms_false : iprop(∃ f, arr (F := F) c (Memref.whole cc0_scratch0) f) ⊢ iprop(room 0 c ∗ room 1 c ∗ room 2 c ∗ room 3 c) := by
  refine (split4 c (Memref.whole cc0_scratch0) (View.set_whole _)).trans ?_
  rw [bigSep_univ_eq_bigSepL [0, 1, 2, 3] (by decide) (by decide)]
  simp only [bigSepL_cons_cons, bigSepL_singleton]
  exact Entails.refl _
theorem rooms_true : iprop(∃ f, arr (F := F) c (Memref.whole cc0_scratch1) f) ⊢ iprop(room 6 c ∗ room 7 c ∗ room 8 c ∗ room 9 c) := by
  refine (split4 c (Memref.whole cc0_scratch1) (View.set_whole _)).trans ?_
  rw [bigSep_univ_eq_bigSepL [0, 1, 2, 3] (by decide) (by decide)]
  simp only [bigSepL_cons_cons, bigSepL_singleton]
  exact Entails.refl _
theorem unrooms_false : iprop(room 0 c ∗ room 1 c ∗ room 2 c ∗ room 3 c) ⊢ iprop(∃ f, arr (F := F) c (Memref.whole cc0_scratch0) f) := by
  refine BIBase.Entails.trans ?_ (join4 c (Memref.whole cc0_scratch0) (View.set_whole _))
  rw [bigSep_univ_eq_bigSepL [0, 1, 2, 3] (by decide) (by decide)]
  simp only [bigSepL_cons_cons, bigSepL_singleton]
  exact Entails.refl _
theorem unrooms_true : iprop(room 6 c ∗ room 7 c ∗ room 8 c ∗ room 9 c) ⊢ iprop(∃ f, arr (F := F) c (Memref.whole cc0_scratch1) f) := by
  refine BIBase.Entails.trans ?_ (join4 c (Memref.whole cc0_scratch1) (View.set_whole _))
  rw [bigSep_univ_eq_bigSepL [0, 1, 2, 3] (by decide) (by decide)]
  simp only [bigSepL_cons_cons, bigSepL_singleton]
  exact Entails.refl _

/-- A landing slot of device `c`, at any contents. -/
def held (x : Fin 12) (c : Dev nD) : sProp 𝕄 := iprop(∃ v : S512x512.Idx → Elt F .bf16, has c (rM x) fullShare v)

theorem slots_of (d : Bool) (M : Memref sig .tc .vmem S6x512x512 .bf16) (hM : M.view.set = Finset.univ) (h : rBuf d = M) :
    iprop(∃ f, arr (F := F) c M f) ⊢ slots d c := by subst h; exact split6 c (rBuf d) hM
theorem unslots_false : iprop(held 0 c ∗ held 1 c ∗ held 2 c ∗ held 3 c ∗ held 4 c ∗ held 5 c) ⊢ iprop(∃ f, arr (F := F) c (Memref.whole cc0_scratch2) f) := by
  refine BIBase.Entails.trans ?_ (join6 c (Memref.whole cc0_scratch2) (View.set_whole _))
  rw [bigSep_univ_eq_bigSepL [0, 1, 2, 3, 4, 5] (by decide) (by decide)]
  simp only [bigSepL_cons_cons, bigSepL_singleton]
  exact Entails.refl _
theorem unslots_true : iprop(held 6 c ∗ held 7 c ∗ held 8 c ∗ held 9 c ∗ held 10 c ∗ held 11 c) ⊢ iprop(∃ f, arr (F := F) c (Memref.whole cc0_scratch3) f) := by
  refine BIBase.Entails.trans ?_ (join6 c (Memref.whole cc0_scratch3) (View.set_whole _))
  rw [bigSep_univ_eq_bigSepL [0, 1, 2, 3, 4, 5] (by decide) (by decide)]
  simp only [bigSepL_cons_cons, bigSepL_singleton]
  exact Entails.refl _

end Buffers

end Cert.KernelIdealRun

end
-- ==== Proof.KernelIdeal.Body.lean ====
module

public import proofs.«01_k».proof.Proof.KernelIdeal.Compute
public import proofs.«01_k».proof.Proof.KernelIdeal.Parts
public import proofs.«01_k».proof.Proof.KernelIdeal.Buffers

/-! # The body

One device's body end to end: what it starts from, and what it leaves. -/

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Key → ℕ) (c : Dev nD)

/-- The four scratch buffers of device `c`, at any contents. -/
def bufs (c : Dev nD) : sProp 𝕄 :=
  iprop((∃ f, arr c (Memref.whole cc0_scratch0) f) ∗ (∃ f, arr c (Memref.whole cc0_scratch1) f)
    ∗ (∃ f, arr c (Memref.whole cc0_scratch2) f) ∗ (∃ f, arr c (Memref.whole cc0_scratch3) f))

/-- The exchange's transfer semaphores of device `c`, all at zero. -/
def calm (c : Dev nD) : sProp 𝕄 :=
  iprop((bigSep (Finset.univ : Finset (Fin 12)) fun x => semVal (sndCell x c) 0) ∗ bigSep (Finset.univ : Finset (Fin 12)) fun x => semVal (rcvCell x c) 0)

/-- Something held of every channel, one by one. -/
theorem twelve (P : Fin 12 → sProp 𝕄) : bigSep (Finset.univ : Finset (Fin 12)) P
    = iprop(P 0 ∗ P 1 ∗ P 2 ∗ P 3 ∗ P 4 ∗ P 5 ∗ P 6 ∗ P 7 ∗ P 8 ∗ P 9 ∗ P 10 ∗ P 11) := by
  rw [bigSep_univ_eq_bigSepL [0, 1, 2, 3, 4, 5, 6, 7, 8, 9, 10, 11] (by decide) (by decide)]
  simp only [bigSepL_cons_cons, bigSepL_singleton]
  rfl

/-- A landed slot, all of it, is a slot at some contents. -/
theorem held_whole (x : Fin 12) : has c (rM x) fullShare (inn m ρ x c) ⊢ held x c := by
  unfold held; iintro H; iexists _; iexact H
/-- A landed slot whose other half was lent is a slot again when that half is back. -/
theorem held_again (x y : Fin 12) (hM : sM y = rM x) (hq : qs y = PosShare.left fullShare) (hv : out m ρ y c = inn m ρ x c) :
    iprop(has c (sM y) (qs y) (out m ρ y c) ∗ has c (rM x) (PosShare.right fullShare) (inn m ρ x c)) ⊢ held x c := by
  rw [hM, hq, hv]
  exact (whole_again c (rM x) _).trans (held_whole m ρ c x)
/-- A send slot that is back is a send slot at some contents. -/
theorem room_back (x : Fin 12) (hq : qs x = fullShare) : has c (sM x) (qs x) (out m ρ x c) ⊢ room x c := by
  unfold room; rw [hq]; iintro H; iexists _; iexact H

/-- Everything landed and everything back: the buffers are whole and the semaphores at zero. -/
theorem settle :
    iprop((arrived m ρ 0 fullShare c ∗ arrived m ρ 1 fullShare c ∗ arrived m ρ 2 fullShare c ∗ arrived m ρ 3 (PosShare.right fullShare) c
        ∗ arrived m ρ 4 (PosShare.right fullShare) c ∗ arrived m ρ 5 fullShare c)
      ∗ (arrived m ρ 6 fullShare c ∗ arrived m ρ 7 fullShare c ∗ arrived m ρ 8 fullShare c ∗ arrived m ρ 9 (PosShare.right fullShare) c
        ∗ arrived m ρ 10 (PosShare.right fullShare) c ∗ arrived m ρ 11 fullShare c)
      ∗ bigSep (Finset.univ : Finset (Fin 12)) fun x => back m ρ x c)
      ⊢ iprop(calm c ∗ bufs c) := by
  rw [twelve]
  unfold arrived back calm bufs
  rw [twelve, twelve]
  iintro ⟨⟨⟨Hz0, Hr0⟩, ⟨Hz1, Hr1⟩, ⟨Hz2, Hr2⟩, ⟨Hz3, Hr3⟩, ⟨Hz4, Hr4⟩, ⟨Hz5, Hr5⟩⟩,
    ⟨⟨Hz6, Hr6⟩, ⟨Hz7, Hr7⟩, ⟨Hz8, Hr8⟩, ⟨Hz9, Hr9⟩, ⟨Hz10, Hr10⟩, ⟨Hz11, Hr11⟩⟩,
    ⟨Hy0, Hs0⟩, ⟨Hy1, Hs1⟩, ⟨Hy2, Hs2⟩, ⟨Hy3, Hs3⟩, ⟨Hy4, Hs4⟩, ⟨Hy5, Hs5⟩, ⟨Hy6, Hs6⟩, ⟨Hy7, Hs7⟩, ⟨Hy8, Hs8⟩, ⟨Hy9, Hs9⟩, ⟨Hy10, Hs10⟩, ⟨Hy11, Hs11⟩⟩
  ihave H0 := (room_back m ρ c 0 rfl) $$ Hs0
  ihave H1 := (room_back m ρ c 1 rfl) $$ Hs1
  ihave H2 := (room_back m ρ c 2 rfl) $$ Hs2
  ihave H3 := (room_back m ρ c 3 rfl) $$ Hs3
  ihave H6 := (room_back m ρ c 6 rfl) $$ Hs6
  ihave H7 := (room_back m ρ c 7 rfl) $$ Hs7
  ihave H8 := (room_back m ρ c 8 rfl) $$ Hs8
  ihave H9 := (room_back m ρ c 9 rfl) $$ Hs9
  ihave G0 := (held_whole m ρ c 0) $$ Hr0
  ihave G1 := (held_whole m ρ c 1) $$ Hr1
  ihave G2 := (held_whole m ρ c 2) $$ Hr2
  ihave G5 := (held_whole m ρ c 5) $$ Hr5
  ihave G6 := (held_whole m ρ c 6) $$ Hr6
  ihave G7 := (held_whole m ρ c 7) $$ Hr7
  ihave G8 := (held_whole m ρ c 8) $$ Hr8
  ihave G11 := (held_whole m ρ c 11) $$ Hr11
  ihave G3 := (held_again m ρ c 3 4 rfl rfl rfl) $$ [Hs4 Hr3]
  · isplitl [Hs4] <;> iassumption
  ihave G4 := (held_again m ρ c 4 5 rfl rfl rfl) $$ [Hs5 Hr4]
  · isplitl [Hs5] <;> iassumption
  ihave G9 := (held_again m ρ c 9 10 rfl rfl rfl) $$ [Hs10 Hr9]
  · isplitl [Hs10] <;> iassumption
  ihave G10 := (held_again m ρ c 10 11 rfl rfl rfl) $$ [Hs11 Hr10]
  · isplitl [Hs11] <;> iassumption
  isplitl [Hz0 Hz1 Hz2 Hz3 Hz4 Hz5 Hz6 Hz7 Hz8 Hz9 Hz10 Hz11 Hy0 Hy1 Hy2 Hy3 Hy4 Hy5 Hy6 Hy7 Hy8 Hy9 Hy10 Hy11]
  · isplitl [Hy0 Hy1 Hy2 Hy3 Hy4 Hy5 Hy6 Hy7 Hy8 Hy9 Hy10 Hy11]
    · iframe
    · iframe
  isplitl [H0 H1 H2 H3]
  · iapply (unrooms_false c); iframe
  isplitl [H6 H7 H8 H9]
  · iapply (unrooms_true c); iframe
  isplitl [G0 G1 G2 G3 G4 G5]
  · iapply (unslots_false c); iframe
  · iapply (unslots_true c); iframe

/-- What device `c` starts the exchange with: the barrier's tokens, and for every channel what sends it and what awaits it. -/
def start (c : Dev nD) : sProp 𝕄 :=
  iprop(gate c ∗ (bigSep (Finset.univ : Finset (Fin 12)) fun x => unsent x c) ∗ bigSep (Finset.univ : Finset (Fin 12)) fun x => coming x c)

/-- The body of device `c`: from its inputs, the result array and the buffers at any contents, it leaves the result
    array at `outA`, its inputs as they were, the buffers at some contents and its semaphores at zero. -/
theorem body_run (T : Dev nD → Bool → Tile F) {Q : _ → sProp 𝕄} :
    recs m ρ K ⊢ iprop(start c -∗ bufs c -∗ ins m ρ c -∗ res c T -∗ Ow c (O₀ c)
        -∗ (ins m ρ c -∗ res c (fin m ρ c) -∗ bufs c -∗ semVal (barCell c) 0 -∗ calm c -∗ Ow c 0 -∗ Q ⟨⟩)
        -∗ WP c (cc0_body (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Q) := by
  rw [cc0_body_eq_skeleton]; unfold cc0_body_skel start bufs
  rw [twelve, twelve]
  iintro #HR ⟨Hg, ⟨U0, U1, U2, U3, U4, U5, U6, U7, U8, U9, U10, U11⟩, C0, C1, C2, C3, C4, C5, C6, C7, C8, C9, C10, C11⟩ ⟨Hb0, Hb1, Hb2, Hb3⟩ Hi HT HO Hk
  ihave ⟨G0, G1, G2, G3⟩ := (rooms_false c) $$ Hb0
  ihave ⟨G6, G7, G8, G9⟩ := (rooms_true c) $$ Hb1
  ihave Hl := (slots_of c false (Memref.whole cc0_scratch2) (View.set_whole _) rfl) $$ Hb2
  ihave Hr := (slots_of c true (Memref.whole cc0_scratch3) (View.set_whole _) rfl) $$ Hb3
  iapply (wp_seq c)
  iapply (part1 m ρ K c) $$ HR Hg Hl Hr Hi HO
  iintro %v5 %v7 %v20 %v21 Hz Hl Hr Hi HO
  ihave ⟨D0, D1, D2, D3, D4, D5⟩ := (targets_false c) $$ Hl
  ihave ⟨D6, D7, D8, D9, D10, D11⟩ := (targets_true c) $$ Hr
  dsimp only
  iapply (wp_seq c)
  iapply (part2 m ρ c) $$ Hi
  iintro Hi
  dsimp only
  iapply (wp_seq c)
  iapply (part3 c)
  dsimp only
  iapply (wp_seq c)
  iapply (part4 m ρ c T _ _ _ _ _ _ _ _ _ _ (part m ρ c (prv c)) rfl) $$ [Hi HT]
  · isplitl [Hi] <;> iassumption
  iintro %v135 Hi HT
  dsimp only
  iapply (wp_seq c)
  iapply (part5 c)
  dsimp only
  iapply (wp_seq c)
  iapply (part6 c (setChunk T (prv c) (part m ρ c (prv c))) _ _ _ _ _ _ _ _ _ _ (part m ρ c (nxt c))
    (chunk_form2 (idWord c) (xRows m ρ c (nxt c)) (wS m ρ c) (iRows m ρ c (nxt c) 0) (iRows m ρ c (nxt c) 1) (eS m ρ c))) $$ HT
  iintro %v253 HT
  iapply (wp_seq c)
  iapply (part7 m ρ K c (setChunk (setChunk T (prv c) (part m ρ c (prv c))) (nxt c) (part m ρ c (nxt c)))
    (by unfold setChunk; rw [if_neg (nxt_ne_prv c).symm, if_pos rfl]) (by unfold setChunk; rw [if_pos rfl])) $$ HR HT [U0 D0] G0 G6 HO
  · unfold ready; isplitl [U0] <;> iassumption
  iintro %v282 HT F0 Hs6 HO
  dsimp only
  iapply (wp_seq c)
  iapply (part8 m ρ K c) $$ HR [U6 D6] Hs6 Hi HO
  · unfold ready; isplitl [U6] <;> iassumption
  iintro %v295 F6 Hi HO
  dsimp only
  iapply (wp_seq c)
  iapply (part9 c)
  dsimp only
  iapply (wp_seq c)
  iapply (part10 m ρ c (setChunk (setChunk T (prv c) (part m ρ c (prv c))) (nxt c) (part m ρ c (nxt c))) _ _ _ _ _ _ _ _ _ _ (part m ρ c (opp c))
    (chunk_form3 (idWord c) (xRows m ρ c (opp c)) (wS m ρ c) (iRows m ρ c (opp c) 0) (iRows m ρ c (opp c) 1) (eS m ρ c))) $$ [Hi HT]
  · isplitl [Hi] <;> iassumption
  iintro %v409 Hi HT
  dsimp only
  iapply (wp_seq c)
  iapply (part11 m ρ c) $$ Hi
  iintro Hi
  dsimp only
  iapply (wp_seq c)
  iapply (part12 c)
  dsimp only
  iapply (wp_seq c)
  iapply (part13 m ρ K c (setChunk (setChunk (setChunk T (prv c) (part m ρ c (prv c))) (nxt c) (part m ρ c (nxt c))) (opp c) (part m ρ c (opp c)))
    _ _ _ _ _ _ _ _ _ _ _
    ((congrArg (setChunk _ c) (chunk_form4 (idWord c) (xRows m ρ c c) (wS m ρ c) (iRows m ρ c c 0) (iRows m ρ c c 1) (eS m ρ c))).trans (tiles_full m ρ c T)))
    $$ HR HT C0 HO
  iintro %u0 %hu0 HT A0 HO
  dsimp only
  iapply (wp_seq c)
  iapply (part14 m ρ K c _ _ _ _ _ ((pay44_eq _ u0).trans (congrArg (fun v => rnd (plus _ v)) hu0))) $$ HR [U1 D1] G1 C6 HO
  · unfold ready; isplitl [U1] <;> iassumption
  iintro F1 A6 HO
  iapply (wp_seq c)
  iapply (part15 m ρ K c) $$ HR HT A6 [U7 D7] G7 C1 HO
  · unfold ready; isplitl [U7] <;> iassumption
  iintro %v598 HT A6 F7 A1 HO
  dsimp only
  iapply (wp_seq c)
  iapply (part16 m ρ K c) $$ HR HT A1 [U2 D2] G2 HO
  · unfold ready; isplitl [U2] <;> iassumption
  iintro HT A1 F2 HO
  iapply (wp_seq c)
  iapply (part17 m ρ K c) $$ HR HT C7 [U8 D8] G8 HO
  · unfold ready; isplitl [U8] <;> iassumption
  iintro %v657 HT A7 F8 HO
  iapply (wp_seq c)
  iapply (part18 m ρ K c) $$ HR HT C2 [U3 D3] G3 HO
  · unfold ready; isplitl [U3] <;> iassumption
  iintro %w1 %e1 HT A2 F3 HO
  iapply (wp_seq c)
  iapply (part19 m ρ K c (T₁ m ρ c) _ _ w1 (by unfold setTile; rw [if_neg (by rintro ⟨-, h⟩; cases h)]; rfl)) $$ HR HT C8 G9 HO
  iintro %w2 %e2 HT A8 Hs9 HO
  iapply (wp_seq c)
  iapply (part20 m ρ K c) $$ HR HT [U9 D9] Hs9 C3 [U4 D4] HO
  · unfold ready; isplitl [U9] <;> iassumption
  · unfold ready; isplitl [U4] <;> iassumption
  iintro %v744 %u3 %hu3 HT F9 A3 F4 HO
  dsimp only
  iapply (wp_seq c)
  iapply (part21 m ρ K c _ _ _ _ u3 hu3) $$ HR HT C9 [U10 D10] HO
  · unfold ready; isplitl [U10] <;> iassumption
  iintro %v771 %w3 %e3 HT A9 F10 HO
  dsimp only
  iapply (wp_seq c)
  iapply (part22 m ρ K c) $$ HR HT C4 [U5 D5] HO
  · unfold ready; isplitl [U5] <;> iassumption
  iintro %v799 %w4 %e4 HT A4 F5 HO
  dsimp only
  iapply (wp_seq c)
  iapply (part23 m ρ K c) $$ HR HT C10 [U11 D11] HO
  · unfold ready; isplitl [U11] <;> iassumption
  iintro %v830 %w5 %e5 HT A10 F11 HO
  dsimp only
  iapply (wp_seq c)
  iapply (part24 m ρ K c) $$ HR HT C5 HO
  iintro HT A5 HO
  iapply (wp_seq c)
  iapply (part25 m ρ K c) $$ HR HT C11 F0 F1 HO
  iintro HT A11 B0 B1 HO
  iapply (wp_seq c)
  iapply (part26 m ρ K c) $$ HR F2 F3 F4 F5 HO
  iintro B2 B3 B4 B5 HO
  iapply (wp_seq c)
  iapply (part27 m ρ K c) $$ HR F6 F7 F8 F9 HO
  iintro B6 B7 B8 B9 HO
  simp only [Prog.lift, Prog.bind_op, Prog.bind_ret, Prog.pure_eq_ret]
  iapply (wp_sent m ρ K 10 c _ rfl _ _ rfl) $$ HR F10 HO
  iintro Hz10 Hb10 HO
  iapply (wp_sent m ρ K 11 c _ rfl _ _ rfl) $$ HR F11 HO
  iintro Hz11 Hb11 HO
  iapply (wp_done c)
  subst e1 e2 e3 e4 e5
  ihave HT := (Entails.of_eq (congrArg (res c) (tiles_final m ρ c (T₁ m ρ c)))) $$ HT
  ihave ⟨Hcalm, Hbufs⟩ := (settle m ρ c) $$ [A0 A1 A2 A3 A4 A5 A6 A7 A8 A9 A10 A11 B0 B1 B2 B3 B4 B5 B6 B7 B8 B9 Hz10 Hb10 Hz11 Hb11]
  · isplitl [A0 A1 A2 A3 A4 A5]; · iframe
    isplitl [A6 A7 A8 A9 A10 A11]; · iframe
    rw [twelve]
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    unfold back
    isplitl [Hz10 Hb10]
    · isplitl [Hz10] <;> iassumption
    · isplitl [Hz11] <;> iassumption
  unfold bufs
  iapply Hk $$ Hi HT Hbufs Hz Hcalm HO

end Cert.KernelIdealRun

end
-- ==== Proof.KernelIdeal.Run.lean ====
module

public import proofs.«01_k».proof.Proof.KernelIdeal.Body
public import Idealize.ShloMosaic.Lib.Pipeline.CollectiveSegs
public import Idealize.ShloMosaic.Lib.Pipeline.ValueKit.Geometry

/-! # The launch

From every device's body to the whole program: the launch deals each device its cells and tokens, the devices
trade the tokens of the duties they pay, and every execution ends with each device's result array at `outA`. -/

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat BodyObligation)

/-! ## What the pipeline is told -/

/-- What the body takes over from the launch. -/
def begun (c : Dev nD) : sProp 𝕄 := iprop((∃ K, recs m ρ K) ∗ start c)
/-- Before the body. -/
def Φ₀ (c : Dev nD) : sProp 𝕄 := iprop(begun m ρ c ∗ bufs c)
/-- After it. -/
def Φ₁ (c : Dev nD) : sProp 𝕄 := iprop(bufs c ∗ calm c ∗ semVal (barCell c) 0)

/-- The arrays, what each window is left at, what is held before and after the one point, and what is owed there. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m ρ c
    | ⟨1, _⟩ => wS m ρ c
    | ⟨2, _⟩ => iS m ρ c
    | ⟨3, _⟩ => eS m ρ c
    | ⟨4, _⟩ => outA m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Device `c`'s buffer `b`, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is run from, -/
def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
/-- and what it is to leave. -/
def bodyPost (c : Dev nD) : sProp 𝕄 :=
  iprop(Φ₁ c ∗ (dats m ρ 0 c).owesAt () t0_0.succ
    ∗ stg c cc0_stg0_0 (xS m ρ c) ∗ stg c cc0_stg1_0 (wS m ρ c) ∗ stg c cc0_stg2_0 (iS m ρ c) ∗ stg c cc0_stg3_0 (eS m ρ c)
    ∗ stg c cc0_stg4_0 (outA m ρ c))

/-- Every input window is fetched at the one point. -/
theorem fetches (w : Fin 5) (hw : (cfg0.win w).isOut = false) : (cfg0.win w).fetch t0_0 = true := by
  revert w; decide
theorem before_0 (c : Dev nD) (d) : (dats m ρ 0 c).before (0 : Fin 5) t0_0 d = xS m ρ c := by unfold Dat.before; rw [if_pos (fetches _ rfl)]; rfl
theorem before_1 (c : Dev nD) (d) : (dats m ρ 0 c).before (1 : Fin 5) t0_0 d = wS m ρ c := by unfold Dat.before; rw [if_pos (fetches _ rfl)]; rfl
theorem before_2 (c : Dev nD) (d) : (dats m ρ 0 c).before (2 : Fin 5) t0_0 d = iS m ρ c := by unfold Dat.before; rw [if_pos (fetches _ rfl)]; rfl
theorem before_3 (c : Dev nD) (d) : (dats m ρ 0 c).before (3 : Fin 5) t0_0 d = eS m ρ c := by unfold Dat.before; rw [if_pos (fetches _ rfl)]; rfl

/-- The body, from what the pipeline hands it to what it hands back. -/
theorem body_staged (c : Dev nD) : bodyPre m ρ c ⊢ WP c (cc0_body (F := F) M0 (Memref.isWhole_whole _) M1 (Memref.isWhole_whole _) M2 (Memref.isWhole_whole _) M3 (Memref.isWhole_whole _) M4 (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyPost m ρ c) := by
  unfold bodyPre Φ₀ begun
  simp only [before_0, before_1, before_2, before_3]
  iintro ⟨⟨⟨⟨%K, #HR⟩, Hs⟩, Hb⟩, Ho, ⟨%d0, %f0, %h0, H0⟩, ⟨%d1, %f1, %h1, H1⟩, ⟨%d2, %f2, %h2, H2⟩, ⟨%d3, %f3, %h3, H3⟩, ⟨%d4, %f4, %h4, H4⟩⟩
  subst h0 h1 h2 h3
  unfold Dat.owesAt Pipeline.owesWithin
  icases Ho with ⟨%W, %hW, HO⟩
  rw [show (dats m ρ 0 c).owed t0_0.castSucc = O₀ c from rfl]
  iapply (body_run m ρ K c (tiles f4)) $$ HR Hs Hb [H0 H1 H2 H3] [H4] [HO]
  · unfold ins; iframe
  · unfold res; rw [asm_tiles]; iexact H4
  · unfold Ow; iexists W; iexact HO
  unfold ins res Ow
  iintro ⟨H0, H1, H2, H3⟩ H4 Hb Hz Hc ⟨%W', HO⟩
  unfold bodyPost Φ₁ Dat.owesAt Pipeline.owesWithin
  rw [show (dats m ρ 0 c).owed t0_0.succ = 0 from rfl]
  isplitl [Hb Hz Hc]; · iframe
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  iexists _; isplitr; · (ipureintro; rfl)
  unfold outA; iexact H4

/-- The body obligation of device `c`. -/
theorem body_obligation (c : Dev nD) : BodyObligation (dats (F := F) m ρ 0 c) (defs₀ (F := F)) 𝒱₀ () Set.univ := fun t => by
  rw [fin_N0 t, bigSep_W0, bigSep_W0]
  simp only [owns_whole_eq]
  exact body_staged m ρ c

/-! ## What the launch deals -/

/-- A channel's send key and receive key, as embeddings. -/
def kSndE : Fin 12 ↪ Key := ⟨kSnd, by decide⟩
def kRcvE : Fin 12 ↪ Key := ⟨kRcv, by decide⟩

/-- Something held of every key: of the barrier's, of every send key, of every receive key. -/
theorem keys (P : Key → sProp 𝕄) : bigSep (Finset.univ : Finset Key) P
    = iprop(P 0 ∗ (bigSep (Finset.univ : Finset (Fin 12)) fun x => P (kSnd x)) ∗ bigSep (Finset.univ : Finset (Fin 12)) fun x => P (kRcv x)) := by
  rw [show (Finset.univ : Finset Key) = insert 0 (Finset.univ.map kSndE ∪ Finset.univ.map kRcvE) by decide,
    bigSep_insert (by decide), bigSep_union (by decide), bigSep_map, bigSep_map]
  rfl

/-- The own semaphores' numbers of the sends and of the receives. -/
def oSndE : Fin 12 ↪ Fin 24 := ⟨fun x => ⟨x.val, by omega⟩, by decide⟩
def oRcvE : Fin 12 ↪ Fin 24 := ⟨fun x => ⟨12 + x.val, by omega⟩, by decide⟩
theorem osem_snd : ∀ x, osem (oSndE x) = .dma (sndS x) := by decide
theorem osem_rcv : ∀ x, osem (oRcvE x) = .dma (rcvS x) := by decide

/-- The exchange's own semaphores at zero are its transfer semaphores at zero. -/
theorem ownSems0_eq (c : Dev nD) : (Pipeline.ownSems0 (Ix := Unit) (Name := ℕ) (U := UU) (Lvl := ℕ) (Val := Elt F) (τ := τ) osem c : sProp 𝕄) = calm c := by
  unfold Pipeline.ownSems0 calm
  rw [show (Finset.univ : Finset (Fin 24)) = Finset.univ.map oSndE ∪ Finset.univ.map oRcvE by decide,
    bigSep_union (by decide), bigSep_map, bigSep_map]
  simp only [osem_snd, osem_rcv]
  rfl
/-- The launch's one other semaphore is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem ownSemFacts : Pipeline.OwnSemFacts cfg0.spec osem := by decide
theorem share_eq (c : Dev nD) (w : Fin cfg0.W) : (dats m ρ 0 c).share w = fullShare := by unfold Dat.share; split <;> rfl

/-- All the exchange's cells; -/
def ringCells : Finset (GSem nD τ sig) := Finset.univ.map ⟨kcell, kcell_injective⟩
/-- the first duty of every cell, and the barrier's second. -/
def tokOf : (Dev nD × Key) ⊕ Dev nD → GSem nD τ sig × ℕ × Bool
  | .inl ck => (kcell ck, 0, false)
  | .inr c => (barCell c, 0, true)
theorem tokOf_injective : Function.Injective tokOf := by
  rintro (a | a) (b | b) h
  · exact congrArg Sum.inl (kcell_injective (congrArg Prod.fst h))
  · exact absurd (congrArg (fun x => x.2.2) h) (show ¬ (false = true) by decide)
  · exact absurd (congrArg (fun x => x.2.2) h) (show ¬ (true = false) by decide)
  · exact congrArg Sum.inr (congrArg (fun x : GSem nD τ sig × ℕ × Bool => x.1.1.1) h)
def ringToks : Finset (GSem nD τ sig × ℕ × Bool) := Finset.univ.map ⟨tokOf, tokOf_injective⟩

/-- The launch's ghost element: the pipeline's and the exchange's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep (Finset.univ : Finset Key) fun k => dutyTok ER (kcell (c, k)) 0 false) ∗ dutyTok ER (barCell c) 0 true)
/-- The position and first-round mark of each of its cells. -/
def marks (c : Dev nD) : sProp 𝕄 :=
  bigSep (Finset.univ : Finset Key) fun k => iprop(atPos ER (kcell (c, k)) 0 ∅ 0 ∗ reached ER (kcell (c, k)) 0)
/-- What the launch deals device `c`. -/
def G (c : Dev nD) : sProp 𝕄 :=
  iprop((bigSep (Finset.univ : Finset Key) fun k => roundState ER (Rd m ρ) (kcell (c, k)) 0) ∗ marks c ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Key => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_sum, bigSep_univ_prod, bigSep_sep']; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G marks; simp only [bigSep_sep']
  iframe

/-! ## The cells opened, and the tokens traded -/

theorem sems0_eq (c : Dev nD) :
    iprop(Pipeline.ownSems0 (Ix := Unit) (Name := ℕ) (U := UU) (Lvl := ℕ) (Val := Elt F) (τ := τ) osem c ∗ unscopedSems0 c)
      ⊢ (bigSep (Finset.univ : Finset Key) fun k => semVal (kcell (c, k)) 0 : sProp 𝕄) := by
  rw [ownSems0_eq, unscopedSems0_eq, keys]
  simp only [kcell_bar, kcell_snd, kcell_rcv]
  unfold calm
  iintro ⟨⟨HS, HV⟩, HB⟩
  iframe

/-- Every key's cell has an invariant, at some name. -/
def named (c : Dev nD) : sProp 𝕄 := bigSep (Finset.univ : Finset Key) fun k => iprop(∃ κ : ℕ, cellInv ER (Rd m ρ) κ (kcell (c, k)))

theorem cells_alloc (c : Dev nD) :
    iprop((bigSep (Finset.univ : Finset Key) fun k => semVal (kcell (c, k)) 0) ∗ bigSep (Finset.univ : Finset Key) fun k => roundState ER (Rd m ρ) (kcell (c, k)) 0)
      ⊢ (|={Set.univ}=> named m ρ c : sProp 𝕄) := by
  unfold named
  rw [← bigSep_sep']
  exact (bigSep_mono fun k _ => (Rounds.body_intro ER (Rd m ρ) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop(named m ρ c ∗ marks c ∗ toks c) := by
  unfold G
  iintro ⟨Hos, Hus, Hst, Hat, Htok⟩
  ihave Hv := (sems0_eq (F := F) c) $$ [Hos Hus]
  · iframe
  imod (cells_alloc m ρ c) $$ [Hv Hst] with Hinv
  · iframe
  imodintro
  iframe

/-- The exchange's standing facts, short of the levels. -/
def known (K : Dev nD × Key → ℕ) : sProp 𝕄 :=
  iprop((bigSep (Finset.univ : Finset (Dev nD × Key)) fun ck => cellInv ER (Rd m ρ) (K ck) (kcell ck))
    ∗ bigSep (Finset.univ : Finset (Dev nD × Key)) fun ck => reached ER (kcell ck) 0)
instance known_persistent (K : Dev nD × Key → ℕ) : BI.Persistent (known m ρ K) := by unfold known; infer_instance

/-- What stays with device `c`: its positions, and the tokens of the duties it pays. -/
def mine (c : Dev nD) : sProp 𝕄 :=
  iprop((bigSep (Finset.univ : Finset Key) fun k => atPos ER (kcell (c, k)) 0 ∅ 0)
    ∗ dutyTok ER (barCell (prv c)) 0 false ∗ dutyTok ER (barCell (nxt c)) 0 true
    ∗ (bigSep (Finset.univ : Finset (Fin 12)) fun x => dutyTok ER (sndCell x c) 0 false)
    ∗ bigSep (Finset.univ : Finset (Fin 12)) fun x => dutyTok ER (rcvCell x (dst x c)) 0 false)
/-- What the launch's global step leaves device `c`. -/
def G' (c : Dev nD) : sProp 𝕄 := iprop((∃ K, known m ρ K) ∗ mine c)

/-- The tokens traded: a barrier's first goes one device up and its second one device down, a receive cell's to the
    device its channel comes from. -/
theorem toks_around : (bigSep Finset.univ fun c : Dev nD => (toks c : sProp 𝕄))
    = iprop((bigSep Finset.univ fun c : Dev nD => dutyTok ER (barCell (prv c)) 0 false) ∗ (bigSep Finset.univ fun c : Dev nD => dutyTok ER (barCell (nxt c)) 0 true)
      ∗ (bigSep Finset.univ fun c : Dev nD => bigSep (Finset.univ : Finset (Fin 12)) fun x => dutyTok ER (sndCell x c) 0 false)
      ∗ bigSep Finset.univ fun c : Dev nD => bigSep (Finset.univ : Finset (Fin 12)) fun x => dutyTok ER (rcvCell x (dst x c)) 0 false) := by
  unfold toks
  simp only [keys, kcell_bar, kcell_snd, kcell_rcv, bigSep_sep']
  rw [Pipeline.bigSep_univ_comm (fun (c : Dev nD) (x : Fin 12) => (dutyTok ER (rcvCell x c) 0 false : sProp 𝕄)),
    Pipeline.bigSep_univ_comm (fun (c : Dev nD) (x : Fin 12) => (dutyTok ER (rcvCell x (dst x c)) 0 false : sProp 𝕄)),
    bigSep_congr (s := Finset.univ) fun (x : Fin 12) _ => bigSep_univ_equiv (ring (dirOf x)) (fun c : Dev nD => (dutyTok ER (rcvCell x c) 0 false : sProp 𝕄)),
    bigSep_univ_equiv (ring true) (fun c : Dev nD => (dutyTok ER (barCell c) 0 false : sProp 𝕄)),
    bigSep_univ_equiv (ring false) (fun c : Dev nD => (dutyTok ER (barCell c) 0 true : sProp 𝕄))]
  refine BI.Entails.antisymm ?_ ?_
  · show (_ : sProp 𝕄) ⊢ _
    iintro ⟨⟨H1, H2, H3⟩, H4⟩
    isplitl [H1]; · iexact H1
    isplitl [H4]; · iexact H4
    isplitl [H2]; · iexact H2
    iexact H3
  · show (_ : sProp 𝕄) ⊢ _
    iintro ⟨H1, H4, H2, H3⟩
    isplitr [H4]
    · isplitl [H1]; · iexact H1
      isplitl [H2]; · iexact H2
      iexact H3
    · iexact H4

theorem known_each (K : Dev nD × Key → ℕ) :
    iprop(known m ρ K ∗ bigSep Finset.univ fun c : Dev nD => (mine c : sProp 𝕄)) ⊢ bigSep Finset.univ (G' m ρ) := by
  unfold G'
  rw [bigSep_sep']
  have h : known m ρ K ⊢ (bigSep Finset.univ fun _ : Dev nD => iprop(∃ K, known m ρ K) : sProp 𝕄) := by
    have h1 : known m ρ K ⊢ (bigSep Finset.univ fun _ : Dev nD => known m ρ K : sProp 𝕄) := BI.bigSep_of_persistent _ _
    have h2 : ∀ c : Dev nD, c ∈ Finset.univ → (known m ρ K ⊢ (iprop(∃ K, known m ρ K) : sProp 𝕄)) := fun _ _ => by
      iintro H; iexists K; iexact H
    exact h1.trans (bigSep_mono h2)
  iintro ⟨HK, HM⟩
  isplitl [HK]
  · iapply h; iexact HK
  · iexact HM

theorem regroup : (bigSep Finset.univ fun c : Dev nD => iprop(named m ρ c ∗ marks c ∗ toks c) : sProp 𝕄) ⊢ bigSep Finset.univ (G' m ρ) := by
  unfold named marks
  rw [bigSep_sep', bigSep_sep', ← bigSep_univ_prod (fun ck : Dev nD × Key => iprop(∃ κ : ℕ, cellInv ER (Rd m ρ) κ (kcell ck))),
    bigSep_congr (s := Finset.univ) (fun (c : Dev nD) _ => bigSep_sep' Finset.univ (fun k : Key => (atPos ER (kcell (c, k)) 0 ∅ 0 : sProp 𝕄)) (fun k => reached ER (kcell (c, k)) 0)),
    bigSep_sep', ← bigSep_univ_prod (fun ck : Dev nD × Key => (reached ER (kcell ck) 0 : sProp 𝕄)), toks_around]
  iintro ⟨HI, ⟨Hat, #HR⟩, Htok⟩
  ihave HK := (BI.bigSep_exists_pi Finset.univ (fun (ck : Dev nD × Key) (κ : ℕ) => (cellInv ER (Rd m ρ) κ (kcell ck) : sProp 𝕄))) $$ HI
  icases HK with ⟨%K, #HI⟩
  iapply (known_each m ρ K)
  isplitr
  · unfold known; isplitl; · iexact HI
    iexact HR
  · unfold mine
    rw [bigSep_sep', bigSep_sep', bigSep_sep', bigSep_sep']
    isplitl [Hat]; · iexact Hat
    iexact Htok

/-- The launch's global step. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

/-- What device `c` owes its channels, as a sum over them. -/
theorem owed_sum (c : Dev nD) : owedL c order = ∑ x : Fin 12, tallyAt (rcvCell x (dst x c)) () N := by
  have h : ∀ l : List (Fin 12), owedL c l = (l.map fun x => (tallyAt (rcvCell x (dst x c)) () N : CellTallies nD τ sig Unit)).sum := by
    intro l; induction l with
    | nil => rfl
    | cons x l ih => rw [owedL, ih, List.map_cons, List.sum_cons, add_comm]
  rw [h, ← List.sum_toFinset _ (by decide), show order.toFinset = Finset.univ by decide]

/-- The credit the launch leaves device `c`: two units of its barrier, and every channel's. -/
theorem creds (c : Dev nD) :
    (Pipeline.launchCred O₀ c : sProp 𝕄)
      ⊢ iprop(cred (tallyAt (barCell c) () 2) ∗ bigSep (Finset.univ : Finset (Fin 12)) fun x => cred (tallyAt (rcvCell x c) () N)) := by
  rw [show (O₀ : Dev nD → CellTallies nD τ sig Unit)
      = fun d => ((∑ x ∈ (Finset.univ : Finset (Fin 12)), (fun x d => tallyAt (rcvCell x (dst x d)) () N) x d) + tallyAt (barCell (nxt d)) () 1) + tallyAt (barCell (prv d)) () 1
      from funext fun d => by unfold O₀ O₁; rw [owed_sum],
    Pipeline.launchCred_add (fun d => (∑ x ∈ (Finset.univ : Finset (Fin 12)), (fun x d => tallyAt (rcvCell x (dst x d)) () N) x d) + tallyAt (barCell (nxt d)) () 1),
    Pipeline.launchCred_add (fun d => ∑ x ∈ (Finset.univ : Finset (Fin 12)), (fun x d => tallyAt (rcvCell x (dst x d)) () N) x d), Pipeline.launchCred_sum]
  have hx : (bigSep (Finset.univ : Finset (Fin 12)) fun x => Pipeline.launchCred (fun d => tallyAt (rcvCell x (dst x d)) () N) c : sProp 𝕄)
      ⊢ bigSep (Finset.univ : Finset (Fin 12)) fun x => cred (tallyAt (rcvCell x c) () N) :=
    bigSep_mono fun x _ => Pipeline.launchCred_tallyAt (.dma (rcvS x)) (dst x) (org x) (fun c => fwd_bwd _ c) (fun c => bwd_fwd _ c) () N c
  have hn : (Pipeline.launchCred (fun d => tallyAt (barCell (nxt d)) () 1) c : sProp 𝕄) ⊢ cred (tallyAt (barCell c) () 1) :=
    Pipeline.launchCred_tallyAt (.reg barS) nxt prv nxt_prv prv_nxt () 1 c
  have hp : (Pipeline.launchCred (fun d => tallyAt (barCell (prv d)) () 1) c : sProp 𝕄) ⊢ cred (tallyAt (barCell c) () 1) :=
    Pipeline.launchCred_tallyAt (.reg barS) prv nxt prv_nxt nxt_prv () 1 c
  iintro ⟨⟨Hx, Hn⟩, Hp⟩
  ihave Hx := hx $$ Hx
  ihave Hn := hn $$ Hn
  ihave Hp := hp $$ Hp
  isplitl [Hn Hp]
  · rw [show (tallyAt (barCell c) () 2 : CellTallies nD τ sig Unit) = tallyAt (barCell c) () 1 + tallyAt (barCell c) () 1 from (tallyAt_add _ _ 1 1).symm]
    iapply (cred_add _ _).2; isplitl [Hn] <;> iassumption
  · iexact Hx

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(begun m ρ c ∗ emp) := by
  unfold G' mine begun start gate unsent coming known recs
  simp only [keys, kcell_bar, kcell_snd, kcell_rcv, bigSep_sep']
  iintro ⟨-, #Hlev, Hcr, -, ⟨%K, #HI, #Hr⟩, ⟨HaB, HaS, HaV⟩, H1, H2, H3, H4⟩
  ihave Hc := (creds (F := F) c) $$ Hcr
  icases Hc with ⟨HB, HN⟩
  imodintro
  isplitl
  · isplitr
    · iexists K
      isplitr; · iexact HI
      isplitr; · iexact Hr
      iexact Hlev
    iframe
  · iempintro

theorem phi0_intro (c : Dev nD) :
    iprop(begun m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ bufs
  iintro ⟨Hr, Hc, Hz⟩
  isplitl [Hz]; · iexact Hz
  isplitl [Hc]; · iexact Hc
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds at the end. -/
def finalA (c : Dev nD) (w : Fin cfg0.W) : Buf (Elt F) ((cfg0.win w).arr.view.loc (c : Thread nD τ)) := (dats m ρ 0 c).arrAt w cfg0.N

/-- Every device's arrays end at `finalA`. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At any float values, from any memory with zero counters: every weakly fair execution on the four devices ends,
    with every device's arrays at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := begun m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array ends as it began. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

/-- The result array ends at `outA`. -/
theorem finalA_out (c : Dev nD) : finalA m ρ c (4 : Fin 5) = outA m ρ c :=
  (dats (F := F) m ρ 0 c).arrAt_eq_of_after_last (4 : Fin 5) t0_0 (by decide) (outA m ρ c) (fun j => rfl)

/-- Every execution ends; each device's result array holds `outA`, its arguments what they held, every counter zero. -/
theorem run_value : θ_run defs (onTc (τ := τ) (main (F := F))) (s₀ m ρ) (fun r =>
    (∀ c : Dev nD, r.2.mem ((c : Thread nD τ).loc main_v1) = outA m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) := by
  refine (θ_run defs (onTc (τ := τ) (main (F := F))) (s₀ m ρ)).mono (fun r h => ⟨fun c => ⟨?_, ?_, ?_, ?_, ?_⟩, h.2⟩) (run_main m ρ)
  · exact (h.1 c (4 : Fin 5)).trans (finalA_out m ρ c)
  · exact (h.1 c (0 : Fin 5)).trans (finalA_in m ρ c 0 rfl)
  · exact (h.1 c (1 : Fin 5)).trans (finalA_in m ρ c 1 rfl)
  · exact (h.1 c (2 : Fin 5)).trans (finalA_in m ρ c 2 rfl)
  · exact (h.1 c (3 : Fin 5)).trans (finalA_in m ρ c 3 rfl)

end Cert.KernelIdealRun

end
-- ==== Proof.Value.Mix.lean ====
module

public import Idealize.ShloMosaic.PureOps.Ideal.Laws
public import Idealize.ShloMosaic.Lib.IdealHost

/-! # The mathematics of the mixture

Facts about extended reals, no program: the softmax weights of two experts renormalised are a two-way logistic
weight, and a sum over all experts of gated products is the weighted sum of the two chosen experts' products. -/

@[expose] public section

noncomputable section

namespace Cert.Mix

open Idealize.ShloMosaic
open scoped BigOperators

/-! ## Finite values -/

/-- A real: neither infinity. -/
def IsReal (x : EReal) : Prop := ∃ r : ℝ, x = (r : EReal)

/-- A product of finite values is finite. -/
theorem IsReal.mul {x y : EReal} (hx : IsReal x) (hy : IsReal y) : IsReal (x * y) := by
  obtain ⟨r, rfl⟩ := hx; obtain ⟨s, rfl⟩ := hy; exact ⟨r * s, by rw [EReal.coe_mul]⟩

/-- A sum of finite values is the real sum. -/
theorem coe_sum {ι : Type} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- A sum of finitely many finite values is finite. -/
theorem IsReal.sum {ι : Type} [Fintype ι] {f : ι → EReal} (h : ∀ i, IsReal (f i)) : IsReal (∑ i, f i) := by
  choose g hg using h
  exact ⟨∑ i, g i, by rw [← coe_sum]; exact Finset.sum_congr rfl fun i _ => hg i⟩

/-- What the test `|x| < ∞` says. -/
theorem IsReal.of_abs {x : EReal} (h : max x (-x) < ⊤) : IsReal x := by
  induction x using EReal.rec with
  | bot => simp at h
  | top => simp at h
  | coe r => exact ⟨r, rfl⟩

/-- The largest of finitely many finite values, taken from below everything, is finite. -/
theorem IsReal.fold_max {n : ℕ} (hn : 0 < n) {f : Fin n → EReal} (h : ∀ i, IsReal (f i)) :
    IsReal ((Finset.univ : Finset (Fin n)).fold max ⊥ f) := by
  have hlt : (Finset.univ : Finset (Fin n)).fold max ⊥ f < ⊤ := by
    rw [Finset.fold_max_lt]
    exact ⟨bot_lt_top, fun i _ => by obtain ⟨r, hr⟩ := h i; rw [hr]; exact EReal.coe_lt_top r⟩
  have hgt : ⊥ < (Finset.univ : Finset (Fin n)).fold max ⊥ f := by
    rw [Finset.lt_fold_max]
    exact .inr ⟨⟨0, hn⟩, Finset.mem_univ _, by obtain ⟨r, hr⟩ := h ⟨0, hn⟩; rw [hr]; exact EReal.bot_lt_coe r⟩
  exact ⟨_, (EReal.coe_toReal hlt.ne hgt.ne').symm⟩

/-! ## The weights -/

/-- Division of reals by a real other than zero is the real quotient. -/
theorem div_coe {a b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The exponential of a real is the real exponential. -/
theorem exp_coe (a : ℝ) : Ideal.exp (a : EReal) = (Real.exp a : EReal) := rfl

/-- The softmax probability of `e` among the scores `s`, taken from the maximum `M`. -/
def prob (s : Fin 16 → EReal) (M : EReal) (e : Fin 16) : EReal :=
  Ideal.div (Ideal.exp (s e - M)) (0 + ∑ k, Ideal.exp (s k - M))

/-- The weight of the first of two scores. -/
def gate (u v : EReal) : EReal := Ideal.div 1 (1 + Ideal.exp (v - u))

/-- Of finite scores the first weight is a real between 0 and 1; the renormalised softmax probabilities are it and
    its complement. -/
theorem gate_spec {s : Fin 16 → EReal} {M : EReal} (hs : ∀ e, IsReal (s e)) (hM : IsReal M) (a b : Fin 16) :
    ∃ r : ℝ, 0 ≤ r ∧ r ≤ 1 ∧ gate (s a) (s b) = (r : EReal)
      ∧ Ideal.div (prob s M a) (prob s M a + prob s M b) = (r : EReal)
      ∧ Ideal.div (prob s M b) (prob s M a + prob s M b) = ((1 - r : ℝ) : EReal) := by
  choose t ht using hs
  obtain ⟨μ, rfl⟩ := hM
  have hp : ∀ e, prob s (μ : EReal) e = ((Real.exp (t e - μ) / ∑ k, Real.exp (t k - μ) : ℝ) : EReal) := fun e => by
    have hZ : (∑ k : Fin 16, Real.exp (t k - μ)) ≠ 0 := (Finset.sum_pos (fun _ _ => Real.exp_pos _) Finset.univ_nonempty).ne'
    unfold prob
    simp only [ht, ← EReal.coe_sub, exp_coe, coe_sum, zero_add]
    exact div_coe hZ
  have hZ : 0 < ∑ k : Fin 16, Real.exp (t k - μ) := Finset.sum_pos (fun _ _ => Real.exp_pos _) Finset.univ_nonempty
  have ha := Real.exp_pos (t a - μ)
  have hb := Real.exp_pos (t b - μ)
  have hab : Real.exp (t a - μ) * Real.exp (t b - t a) = Real.exp (t b - μ) := by rw [← Real.exp_add]; congr 1; ring
  have hE := Real.exp_pos (t b - t a)
  have hsum : (Real.exp (t a - μ) / ∑ k, Real.exp (t k - μ)) + (Real.exp (t b - μ) / ∑ k, Real.exp (t k - μ)) ≠ 0 := by positivity
  refine ⟨1 / (1 + Real.exp (t b - t a)), by positivity, (div_le_one (by positivity)).mpr (by linarith), ?_, ?_, ?_⟩
  · unfold gate
    rw [ht, ht, ← EReal.coe_sub, exp_coe, ← EReal.coe_one, ← EReal.coe_add]
    exact div_coe (by positivity)
  · rw [hp, hp, ← EReal.coe_add, div_coe hsum, ← hab]
    congr 1; field_simp
  · rw [hp, hp, ← EReal.coe_add, div_coe hsum, ← hab]
    congr 1; field_simp; ring

/-! ## The gated sum -/

/-- A non-negative real factor goes into a sum of extended reals. -/
theorem coe_mul_sum {ι : Type} {c : ℝ} (hc : 0 ≤ c) (t : Finset ι) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha, ← ih]
    exact EReal.left_distrib_of_nonneg_of_ne_top (by exact_mod_cast hc) (EReal.coe_ne_top c) _ _

/-- One expert's product of a token scaled by its weight. -/
def term (x : Fin 512 → EReal) (W : Fin 512 → EReal) (g : EReal) : EReal := ∑ k, (x k * g) * W k

/-- The scale comes out of the product. -/
theorem term_coe (x W : Fin 512 → EReal) {g : ℝ} (hg : 0 ≤ g) : term x W (g : EReal) = (g : EReal) * ∑ k, x k * W k := by
  rw [coe_mul_sum hg]
  exact Finset.sum_congr rfl fun k _ => by rw [mul_comm (x k), mul_assoc]

/-- The scale of expert `e` when the experts chosen are `a` and `b`, of weights `u` and `v`. -/
def pick (a b : Fin 16) (u v : EReal) (e : Fin 16) : EReal := (if a = e then u else 0) + (if b = e then v else 0)

/-- Summed over all experts the gated products are the two chosen experts' products, weighted. -/
theorem sum_term (x : Fin 512 → EReal) (W : Fin 16 → Fin 512 → EReal) (a b : Fin 16) {r : ℝ} (h0 : 0 ≤ r) (h1 : r ≤ 1) :
    ∑ e, term x (W e) (pick a b (r : EReal) ((1 - r : ℝ) : EReal) e)
      = (r : EReal) * (∑ k, x k * W a k) + ((1 - r : ℝ) : EReal) * (∑ k, x k * W b k) := by
  have h : ∀ e, term x (W e) (pick a b (r : EReal) ((1 - r : ℝ) : EReal) e)
      = (if a = e then (r : EReal) * ∑ k, x k * W e k else 0) + (if b = e then ((1 - r : ℝ) : EReal) * ∑ k, x k * W e k else 0) := fun e => by
    have hg : pick a b (r : EReal) ((1 - r : ℝ) : EReal) e = (((if a = e then r else 0) + (if b = e then 1 - r else 0) : ℝ) : EReal) := by
      unfold pick; split_ifs <;> simp only [EReal.coe_add, EReal.coe_zero]
    have hu : (0 : ℝ) ≤ if a = e then r else 0 := by split_ifs <;> linarith
    have hv : (0 : ℝ) ≤ if b = e then 1 - r else 0 := by split_ifs <;> linarith
    rw [hg, term_coe _ _ (add_nonneg hu hv), EReal.coe_add,
      EReal.right_distrib_of_nonneg (by exact_mod_cast hu) (by exact_mod_cast hv)]
    split_ifs <;> simp
  rw [Finset.sum_congr rfl fun e _ => h e, Finset.sum_add_distrib, Finset.sum_ite_eq, Finset.sum_ite_eq]
  simp

end Cert.Mix

end
-- ==== Proof.Value.Chunk.lean ====
module

public import proofs.«01_k».proof.Proof.KernelIdeal.Contents
public import proofs.«01_k».proof.Proof.Value.Mix
public import Idealize.ShloMosaic.Lib.MatmulPlain
public import Idealize.ShloMosaic.Lib.Pipeline.Value
public import Idealize.ShloMosaic.Lib.ValueIdx
public import Idealize.ShloMosaic.Lib.WordCmp

/-! # One chunk, read at an index

A chunk is four experts' products added up; at a row and a column each is the row's tokens, scaled by the expert's
weight for that row, times the column of the expert's matrix. -/

@[expose] public section

noncomputable section

namespace Cert.KernelIdealRun

open Cert.KernelIdeal Cert.KernelIdeal.Gen Cert.Mix
open Idealize.ShloMosaic Idealize.ShloMosaic.ValueIdx
open scoped BigOperators

section Pieces
variable {F : FTy → Type} [FloatOps F]

/-- The numbers 0 to 15 in a row. -/
def lanes : IVec S1x16 32 := iota .tc S1x16 32 [1] iota_S1x16_d1_w32

/-- The score of each row at the expert that its index names: the sum over the experts of the masked scores. -/
def chosen (i : IVec S512x1 32) (s : FVec F S512x16 .f32) : FVec F S512x1 .f32 :=
  shapeCast S512x1 (multiReduction .add [1] S512
    (select (cmpi .eq (broadcastTo S512x16 i broadcasts_S512x1_S512x16) (broadcastTo S512x16 lanes broadcasts_S1x16_S512x16)) s
      (broadcast S512x16 (Scalar.ofBits .f32 0x00000000#32))) 0x00000000#32 reduces_S512x16_S512 (.inl rfl) rfl) shapeCasts_S512_S512x1

/-- The first weight, from the two chosen scores. -/
def gate0 (a b : FVec F S512x1 .f32) : FVec F S512x1 .f32 :=
  divf (broadcast S512x1 (Scalar.ofBits .f32 0x3F800000#32))
    (addf (broadcast S512x1 (Scalar.ofBits .f32 0x3F800000#32)) (exp (subf b a)))

/-- The second weight: one less the first. -/
def gate1 (a : FVec F S512x1 .f32) : FVec F S512x1 .f32 := subf (broadcast S512x1 (Scalar.ofBits .f32 0x3F800000#32)) a

/-- The scale of each row at the expert numbered `v`: the weights of the choices that name it. -/
def scale (v : BitVec 32) (i0 i1 : IVec S512x1 32) (a b : FVec F S512x1 .f32) : FVec F S512x1 .f32 :=
  addf (select (cmpi .eq i0 (broadcast S512x1 v)) a (broadcast S512x1 (Scalar.ofBits .f32 0x00000000#32)))
    (select (cmpi .eq i1 (broadcast S512x1 v)) b (broadcast S512x1 (Scalar.ofBits .f32 0x00000000#32)))

/-- One expert's product of the scaled tokens. -/
def product (x : FVec F S512x512 .bf16) (g : FVec F S512x1 .f32) (W : FVec F S512x1024 .bf16) : FVec F S512x1024 .f32 :=
  matmul dot_S512x512_S512x1024_S512x1024_1_0_0_1_n_n none
    (truncf .bf16 (mulf (extf .f32 x bitsLt_bf16_f32) (broadcastTo S512x512 g broadcasts_S512x1_S512x512)) bitsLt_bf16_f32) W
    (constant S512x1024 .f32 0x00000000#32)

/-- One expert's matrix out of the four. -/
def slab (off : Fin 3 → ℕ) (h : S4x512x1024.Slices off S1x512x1024) (e : FVec F S4x512x1024 .bf16) : FVec F S512x1024 .bf16 :=
  shapeCast S512x1024 (extractStridedSlice S1x512x1024 off e h) shapeCasts_S1x512x1024_S512x1024

/-- A chunk is its four experts' products, added from zero. -/
theorem chunk_eq (v : BitVec 32) (x : Vec F S512x512 .bf16) (w : Vec F S512x16 .bf16) (i0 i1 : Vec F S512x1 .i32) (e : Vec F S4x512x1024 .bf16) :
    chunk v x w i0 i1 e =
      let a := gate0 (chosen i0 (k0_pay3 x w)) (chosen i1 (k0_pay3 x w))
      let P := fun (n : BitVec 32) off h => product x (scale (Scalar.addi (Scalar.muli v 4#32) n) i0 i1 a (gate1 a)) (slab off h e)
      addf (addf (addf (addf (broadcast S512x1024 (Scalar.ofBits .f32 0x00000000#32))
        (P 0#32 ![0, 0, 0] slices_S4x512x1024_o0_0_0_S1x512x1024)) (P 1#32 ![1, 0, 0] slices_S4x512x1024_o1_0_0_S1x512x1024))
        (P 2#32 ![2, 0, 0] slices_S4x512x1024_o2_0_0_S1x512x1024)) (P 3#32 ![3, 0, 0] slices_S4x512x1024_o3_0_0_S1x512x1024) := by
  have h1 : k0_pay1 e = e := shapeCast_self ..
  have h2 : k0_pay2 x = x := shapeCast_self ..
  have h4 : k0_pay4 (F := F) i0 = i0 := shapeCast_self ..
  have h5 : k0_pay5 (F := F) i1 = i1 := shapeCast_self ..
  have h6 : k0_pay6 lanes (k0_pay3 x w) i0 i1 = gate0 (chosen i0 (k0_pay3 x w)) (chosen i1 (k0_pay3 x w)) := by
    unfold k0_pay6; rw [h4, h5]; rfl
  have h7 : k0_pay7 lanes (k0_pay3 x w) i0 i1 = gate1 (gate0 (chosen i0 (k0_pay3 x w)) (chosen i1 (k0_pay3 x w))) := by
    unfold k0_pay7; rw [h6]; rfl
  have h9 : k0_pay9 v lanes x (k0_pay3 x w) i0 i1 = truncf .bf16 (mulf (extf .f32 x bitsLt_bf16_f32)
      (broadcastTo S512x512 (scale (Scalar.addi (Scalar.muli v 4#32) 0#32) i0 i1 (gate0 (chosen i0 (k0_pay3 x w)) (chosen i1 (k0_pay3 x w)))
        (gate1 (gate0 (chosen i0 (k0_pay3 x w)) (chosen i1 (k0_pay3 x w))))) broadcasts_S512x1_S512x512)) bitsLt_bf16_f32 := by
    unfold k0_pay9; rw [h4, h5, h6, h7]; rfl
  show k0_pay13 (k0_pay1 e) (k0_pay2 x) (k0_pay5 (F := F) i1) (k0_pay7 lanes (k0_pay3 x w) i0 i1)
    (k0_pay11 v (k0_pay1 e) (k0_pay2 x) (k0_pay4 (F := F) i0) (k0_pay5 (F := F) i1) (k0_pay6 lanes (k0_pay3 x w) i0 i1)
      (k0_pay7 lanes (k0_pay3 x w) i0 i1) (k0_pay8 (F := F)) (k0_pay9 v lanes (k0_pay2 x) (k0_pay3 x w) i0 i1) (k0_pay10 (k0_pay1 e)))
    (Scalar.addi (Scalar.muli v 4#32) 3#32) (k0_pay12 v (k0_pay4 (F := F) i0) (k0_pay6 lanes (k0_pay3 x w) i0 i1)) = _
  rw [h1, h2, h4, h5, h6, h7, h9]
  rfl

end Pieces

/-! ## At an index -/

/-- A selection by equality of two words. -/
theorem select_eq {α : Type} {n : ℕ} (u v : BitVec n) (a b : α) : Scalar.select (IntOp.cmpi .eq u v) a b = if u = v then a else b := by
  rw [WordCmp.cmpi_eq_eq]; by_cases h : u = v <;> simp [h, Scalar.select]

/-- Two expert numbers are equal when their words are. -/
theorem word_inj (a b : Fin 16) : BitVec.ofNat 32 a.val = BitVec.ofNat 32 b.val ↔ a = b := by
  revert a b; decide

/-- The router's score of a row for an expert. -/
def score (x : Fin 512 → EReal) (w : S512x16.Idx → EReal) (e : Fin 16) : EReal := ∑ k, x k * w (ix2 k e)

/-- The matrix of scores at a row and an expert. -/
theorem scores_at (x : Vec Ideal S512x512 .bf16) (w : Vec Ideal S512x16 .bf16) (r : Fin 512) (e : Fin 16) :
    k0_pay3 x w (ix2 r e) = score (fun k => x (ix2 r k)) w e := by
  have h1 : k0_pay3 x w = FloatOps.matmul (φ₁ := .bf16) (φ₂ := .bf16) (DotDims.plain 512 512 16) none x w (constant S512x16 .f32 0x00000000#32) := by
    unfold k0_pay3 k0_pay2; rw [shapeCast_self, shapeCast_self]; rfl
  rw [h1, Ideal.matmul_plain_apply, constant_apply, Ideal.ofBits_zero_f32, zero_add]
  rfl

/-- The masked sum over the experts reads the score of the one expert that the row's index names. -/
theorem chosen_at (i : IVec S512x1 32) (s : FVec Ideal S512x16 .f32) (r : Fin 512) (a : Fin 16)
    (ha : i (ix2 r 0) = BitVec.ofNat 32 a.val) : chosen i s (ix2 r 0) = s (ix2 r a) := by
  unfold chosen
  rw [shapeCast_apply _ _ _ (ix1 r) (by rewrite [Shape.rowMajor_val_two, Shape.rowMajor_val_one]; simp)]
  refine (Ideal.multiReduction_add_single _ _ reduces_S512x16_S512 _ _ _).trans ?_
  have h : ∀ k : Fin 16, select (cmpi .eq (broadcastTo S512x16 i broadcasts_S512x1_S512x16) (broadcastTo S512x16 lanes broadcasts_S1x16_S512x16)) s
      (broadcast S512x16 (Scalar.ofBits .f32 0x00000000#32)) (reduces_S512x16_S512.lift (ix1 r) k) = if a = k then s (ix2 r k) else 0 := fun k => by
    have hl : reduces_S512x16_S512.lift (ix1 r) k = (ix2 r k : S512x16.Idx) := by
      funext d; apply Fin.ext
      match d with
      | ⟨0, _⟩ => rfl
      | ⟨1, _⟩ => rfl
    have hb : broadcastTo S512x16 i broadcasts_S512x1_S512x16 (ix2 r k) = BitVec.ofNat 32 a.val :=
      (broadcastTo_apply i _ _ (ix2 r 0) (fun d => match d with | ⟨0, _⟩ => rfl | ⟨1, _⟩ => rfl)).trans ha
    have hi : broadcastTo S512x16 lanes broadcasts_S1x16_S512x16 (ix2 r k) = BitVec.ofNat 32 k.val :=
      (broadcastTo_apply lanes _ _ (ix2 0 k) (fun d => match d with | ⟨0, _⟩ => rfl | ⟨1, _⟩ => rfl)).trans (iota_single_apply ..)
    rw [hl]
    show Scalar.select (IntOp.cmpi .eq (broadcastTo S512x16 i broadcasts_S512x1_S512x16 (ix2 r k))
      (broadcastTo S512x16 lanes broadcasts_S1x16_S512x16 (ix2 r k))) (s (ix2 r k)) (Ideal.ofBits .f32 0x00000000#32) = _
    rw [hb, hi, select_eq, Ideal.ofBits_zero_f32]
    simp only [word_inj]
  have hs : ∀ f : Fin 16 → EReal, ∑ k : Fin 16, (if a = k then f k else 0) = f a := fun f => by
    rw [Finset.sum_ite_eq, if_pos (Finset.mem_univ a)]
  exact (Finset.sum_congr rfl fun k _ => h k).trans (hs fun k => s (ix2 r k))

/-- The product of the scaled rows with a weight matrix, at a row and a column. -/
theorem product_at (x : FVec Ideal S512x512 .bf16) (g : FVec Ideal S512x1 .f32) (W : FVec Ideal S512x1024 .bf16) (r : Fin 512) (j : Fin 1024) :
    product x g W (ix2 r j) = term (fun k => x (ix2 r k)) (fun k => W (ix2 k j)) (g (ix2 r 0)) := by
  have h1 : product x g W = FloatOps.matmul (DotDims.plain 512 512 1024) none
      (truncf .bf16 (mulf (extf .f32 x bitsLt_bf16_f32) (broadcastTo S512x512 g broadcasts_S512x1_S512x512)) bitsLt_bf16_f32 : FVec Ideal S512x512 .bf16) W
      (constant S512x1024 .f32 0x00000000#32) := rfl
  rw [h1, Ideal.matmul_plain_apply, constant_apply, Ideal.ofBits_zero_f32, zero_add]
  refine Finset.sum_congr rfl fun k _ => ?_
  rw [truncf_apply, mulf_apply, extf_apply,
    broadcastTo_apply g _ (ix2 r k) (ix2 r 0) (fun d => match d with | ⟨0, _⟩ => rfl | ⟨1, _⟩ => rfl)]

/-- A slab of the weights is the matrix of the expert at which it starts. -/
theorem slab_at (n : Fin 4) (off : Fin 3 → ℕ) (h : S4x512x1024.Slices off S1x512x1024) (e : FVec Ideal S4x512x1024 .bf16)
    (h0 : off 0 = n.val) (h1 : off 1 = 0) (h2 : off 2 = 0) (k : Fin 512) (j : Fin 1024) : slab off h e (ix2 k j) = e (ix3 n k j) := by
  unfold slab
  rw [shapeCast_dropUnit_apply]
  refine extractStridedSlice_apply off e h _ (ix3 n k j) (fun d => ?_)
  match d with
  | ⟨0, _⟩ => exact h0.symm
  | ⟨1, _⟩ => exact (by rw [h1, zero_add] : k.val = off 1 + _)
  | ⟨2, _⟩ => exact (by rw [h2, zero_add] : j.val = off 2 + _)

/-- The scale of a row for expert `e`: the weights of those of its two experts that are `e`. -/
theorem scale_at (v : BitVec 32) (i0 i1 : IVec S512x1 32) (p q : FVec Ideal S512x1 .f32) (r : Fin 512) (a b e : Fin 16)
    (ha : i0 (ix2 r 0) = BitVec.ofNat 32 a.val) (hb : i1 (ix2 r 0) = BitVec.ofNat 32 b.val) (hv : v = BitVec.ofNat 32 e.val) :
    scale v i0 i1 p q (ix2 r 0) = pick a b (p (ix2 r 0)) (q (ix2 r 0)) e := by
  show Scalar.select (IntOp.cmpi .eq (i0 (ix2 r 0)) v) (p (ix2 r 0)) (Ideal.ofBits .f32 0x00000000#32)
    + Scalar.select (IntOp.cmpi .eq (i1 (ix2 r 0)) v) (q (ix2 r 0)) (Ideal.ofBits .f32 0x00000000#32) = _
  rw [ha, hb, hv, select_eq, select_eq, Ideal.ofBits_zero_f32]
  simp only [word_inj]
  rfl

/-- Expert `n` of device `c` in the numbering of all experts. -/
def expertOf (c n : Fin 4) : Fin 16 := ⟨4 * c.val + n.val, by omega⟩

/-- The word that the device computes for its expert `n` is the expert's number. -/
theorem expert_word (c : Dev nD) (n : Fin 4) :
    Scalar.addi (Scalar.muli (idWord c) 4#32) (BitVec.ofNat 32 n.val) = BitVec.ofNat 32 (expertOf c n).val := by
  revert c n; decide

/-- Device `c`'s chunk at a row and a column: its four experts' gated products of the row. -/
theorem chunk_at (c : Dev nD) (x : Vec Ideal S512x512 .bf16) (w : Vec Ideal S512x16 .bf16) (i0 i1 : Vec Ideal S512x1 .i32)
    (e : Vec Ideal S4x512x1024 .bf16) (r : Fin 512) (j : Fin 1024) (a b : Fin 16)
    (ha : i0 (ix2 r 0) = BitVec.ofNat 32 a.val) (hb : i1 (ix2 r 0) = BitVec.ofNat 32 b.val) :
    chunk (idWord c) x w i0 i1 e (ix2 r j) =
      ∑ n : Fin 4, term (fun k => x (ix2 r k)) (fun k => e (ix3 n k j))
        (pick a b (gate (score (fun k => x (ix2 r k)) w a) (score (fun k => x (ix2 r k)) w b))
          (1 - gate (score (fun k => x (ix2 r k)) w a) (score (fun k => x (ix2 r k)) w b)) (expertOf c n)) := by
  rw [chunk_eq, Fin.sum_univ_four]
  have hg : gate0 (chosen i0 (k0_pay3 x w)) (chosen i1 (k0_pay3 x w)) (ix2 r 0)
      = gate (score (fun k => x (ix2 r k)) w a) (score (fun k => x (ix2 r k)) w b) := by
    show Ideal.div (Ideal.ofBits .f32 0x3F800000#32) (Ideal.ofBits .f32 0x3F800000#32
      + Ideal.exp (chosen i1 (k0_pay3 x w) (ix2 r 0) - chosen i0 (k0_pay3 x w) (ix2 r 0))) = _
    rw [chosen_at i0 _ r a ha, chosen_at i1 _ r b hb, scores_at, scores_at, Ideal.ofBits_one_f32]
    rfl
  have hg1 : gate1 (gate0 (chosen i0 (k0_pay3 x w)) (chosen i1 (k0_pay3 x w))) (ix2 r 0)
      = 1 - gate (score (fun k => x (ix2 r k)) w a) (score (fun k => x (ix2 r k)) w b) := by
    show Ideal.ofBits .f32 0x3F800000#32 - gate0 (chosen i0 (k0_pay3 x w)) (chosen i1 (k0_pay3 x w)) (ix2 r 0) = _
    rw [hg, Ideal.ofBits_one_f32]
  have hp : ∀ (n : Fin 4) (off : Fin 3 → ℕ) (h : S4x512x1024.Slices off S1x512x1024), off 0 = n.val → off 1 = 0 → off 2 = 0 →
      product x (scale (Scalar.addi (Scalar.muli (idWord c) 4#32) (BitVec.ofNat 32 n.val)) i0 i1
        (gate0 (chosen i0 (k0_pay3 x w)) (chosen i1 (k0_pay3 x w))) (gate1 (gate0 (chosen i0 (k0_pay3 x w)) (chosen i1 (k0_pay3 x w))))) (slab off h e) (ix2 r j)
      = term (fun k => x (ix2 r k)) (fun k => e (ix3 n k j))
        (pick a b (gate (score (fun k => x (ix2 r k)) w a) (score (fun k => x (ix2 r k)) w b))
          (1 - gate (score (fun k => x (ix2 r k)) w a) (score (fun k => x (ix2 r k)) w b)) (expertOf c n)) := fun n off h h0 h1 h2 => by
    rw [product_at, scale_at _ i0 i1 _ _ r a b _ ha hb (expert_word c n), hg, hg1]
    congr 1
    funext k
    exact slab_at n off h e h0 h1 h2 k j
  dsimp only
  rw [addf_apply, addf_apply, addf_apply, addf_apply, ← hp 0 ![0, 0, 0] slices_S4x512x1024_o0_0_0_S1x512x1024 rfl rfl rfl,
    ← hp 1 ![1, 0, 0] slices_S4x512x1024_o1_0_0_S1x512x1024 rfl rfl rfl, ← hp 2 ![2, 0, 0] slices_S4x512x1024_o2_0_0_S1x512x1024 rfl rfl rfl,
    ← hp 3 ![3, 0, 0] slices_S4x512x1024_o3_0_0_S1x512x1024 rfl rfl rfl]
  show Ideal.ofBits .f32 0x00000000#32 + _ + _ + _ + _ = _
  rw [Ideal.ofBits_zero_f32, zero_add]
  rfl

end Cert.KernelIdealRun

end
-- ==== Proof.Value.Total.lean ====
module

public import proofs.«01_k».proof.Proof.Value.Chunk

/-! # The result array, read at an index

The reduce-scatter adds the four devices' shares of each chunk and the all-gather copies the sums, so every device's
result array holds the sum over all sixteen experts. -/

@[expose] public section

noncomputable section

namespace Cert.KernelIdealRun

open Cert.KernelIdeal Cert.KernelIdeal.Gen Cert.Mix
open Idealize.ShloMosaic Idealize.ShloMosaic.ValueIdx
open Idealize.ShloMosaic.TcCoe
open scoped BigOperators

variable (m : (ℓ : Loc nD τ sig) → Buf (Elt Ideal) ℓ) (ρ : Dev nD → PrngReg)

/-! ## The staged inputs are the argument arrays -/

/-- The tokens that the body reads. -/
theorem xS_eq (c : Dev nD) (i : S2048x512.Idx) : xS m ρ c i = m ((c : Thread nD τ).loc main_arg0) i := by
  exact congrArg (m ((c : Thread nD τ).loc main_arg0)) (funext fun d => Fin.ext (win0_0.rect_emb_val_of_index_zero (0 : Fin 1) d rfl i))

/-- The router's weights that the body reads. -/
theorem wS_eq (c : Dev nD) (i : S512x16.Idx) : wS m ρ c i = m ((c : Thread nD τ).loc main_arg1) i := by
  exact congrArg (m ((c : Thread nD τ).loc main_arg1)) (funext fun d => Fin.ext (win0_1.rect_emb_val_of_index_zero (0 : Fin 1) d rfl i))

/-- The routing indices that the body reads. -/
theorem iS_eq (c : Dev nD) (i : S2048x2.Idx) : iS m ρ c i = m ((c : Thread nD τ).loc main_arg2) i := by
  exact congrArg (m ((c : Thread nD τ).loc main_arg2)) (funext fun d => Fin.ext (win0_2.rect_emb_val_of_index_zero (0 : Fin 1) d rfl i))

/-- The expert weights that the body reads. -/
theorem eS_eq (c : Dev nD) (i : S4x512x1024.Idx) : eS m ρ c i = m ((c : Thread nD τ).loc main_arg3) i := by
  exact congrArg (m ((c : Thread nD τ).loc main_arg3)) (funext fun d => Fin.ext (win0_3.rect_emb_val_of_index_zero (0 : Fin 1) d rfl i))

/-! ## The ring's sums -/

/-- A half of a chunk, read at an index. -/
theorem half_apply (v : S512x1024.Idx → Elt Ideal .f32) (d : Bool) (i : S512x512.Idx) : half v d i = v (ix2 (i 0) (colIx d (i 1))) := rfl

/-- A running sum of the next hop is the own share and the neighbour's running sum. -/
theorem red_succ_at (d : Bool) (h : ℕ) (c : Dev nD) (i : S512x512.Idx) :
    red m ρ d (h + 1) c i = half (part m ρ c (chunkAt d (h + 1) c)) d i + red m ρ d h (bwd d c) i := rfl

/-- After the last hop of the reduce-scatter device `c` holds the sum of all devices' shares of chunk `c`. -/
theorem red_last (d : Bool) (c : Dev nD) (i : S512x512.Idx) :
    (red m ρ d 3 c i : EReal) = ∑ k : Fin 4, (half (part m ρ k c) d i : EReal) := by
  have e : ∀ c : Dev nD, chunkAt d 3 c = c ∧ chunkAt d 2 (bwd d c) = c ∧ chunkAt d 1 (bwd d (bwd d c)) = c
      ∧ chunkAt d 0 (bwd d (bwd d (bwd d c))) = c := by cases d <;> decide
  have h0 : red m ρ d 0 (bwd d (bwd d (bwd d c))) i = half (part m ρ (bwd d (bwd d (bwd d c))) (chunkAt d 0 (bwd d (bwd d (bwd d c))))) d i := rfl
  rw [red_succ_at, red_succ_at, red_succ_at, h0, (e c).1, (e c).2.1, (e c).2.2.1, (e c).2.2.2]
  generalize hg : (fun k : Dev nD => (half (part m ρ k c) d i : EReal)) = g
  have hk : ∀ k : Dev nD, (half (part m ρ k c) d i : EReal) = g k := fun k => congrFun hg k
  show (half (part m ρ c c) d i : EReal) + ((half (part m ρ (bwd d c) c) d i : EReal)
    + ((half (part m ρ (bwd d (bwd d c)) c) d i : EReal) + (half (part m ρ (bwd d (bwd d (bwd d c))) c) d i : EReal)))
    = ∑ k : Dev nD, g k
  rw [hk, hk, hk, hk]
  clear hk hg h0 e
  have hb : ∀ c : Dev nD, ({c, bwd d c, bwd d (bwd d c), bwd d (bwd d (bwd d c))} : Finset (Dev nD)) = Finset.univ
      ∧ c ∉ ({bwd d c, bwd d (bwd d c), bwd d (bwd d (bwd d c))} : Finset (Dev nD))
      ∧ bwd d c ∉ ({bwd d (bwd d c), bwd d (bwd d (bwd d c))} : Finset (Dev nD))
      ∧ bwd d (bwd d c) ∉ ({bwd d (bwd d (bwd d c))} : Finset (Dev nD)) := by cases d <;> decide
  rw [← (hb c).1, Finset.sum_insert (hb c).2.1, Finset.sum_insert (hb c).2.2.1, Finset.sum_insert (hb c).2.2.2, Finset.sum_singleton]

/-- Every device holds the same finished tiles. -/
theorem fin_at (c k : Dev nD) (d : Bool) : fin m ρ c k d = red m ρ d 3 k := by
  unfold fin
  split
  · next h => rw [h]
  · rfl

/-- Every device's result array at a row of chunk `k`: the sum of the devices' shares of that chunk. -/
theorem out_at (c k : Dev nD) (r : Fin 512) (j : Fin 1024) :
    (outA m ρ c (ix2 (rowIx k r) j) : EReal) = ∑ dv : Fin 4, (part m ρ dv k (ix2 r j) : EReal) := by
  have hj : j = colIx (decide (512 ≤ j.val)) ⟨j.val % 512, Nat.mod_lt _ (by decide)⟩ := by
    have := j.isLt
    apply Fin.ext
    show j.val = (if decide (512 ≤ j.val) = true then 512 else 0) + j.val % 512
    simp only [decide_eq_true_eq]; split <;> omega
  have h := asm_at (fin m ρ c) k (decide (512 ≤ j.val)) (ix2 r ⟨j.val % 512, Nat.mod_lt _ (by decide)⟩) (ix2 (rowIx k r) j) rfl
    (congrArg Fin.val hj)
  unfold outA
  rw [h, fin_at, red_last]
  refine Finset.sum_congr rfl fun dv _ => ?_
  rw [half_apply]
  exact congrArg (fun q => part m ρ dv k (ix2 r q)) hj.symm

/-! ## All experts -/

/-- A sum over the experts is a sum over the devices of their four. -/
theorem sum_experts (f : Fin 16 → EReal) : ∑ c : Fin 4, ∑ n : Fin 4, f (expertOf c n) = ∑ e, f e := by
  rw [← Finset.sum_product']
  refine Finset.sum_nbij' (fun p => expertOf p.1 p.2) (fun e => (⟨e.val / 4, by omega⟩, ⟨e.val % 4, by omega⟩)) ?_ ?_ ?_ ?_ ?_
  · exact fun _ _ => Finset.mem_univ _
  · exact fun _ _ => Finset.mem_univ _
  · rintro ⟨c, n⟩ _; revert c n; decide
  · intro e _; revert e; decide
  · exact fun _ _ => rfl

/-- The weight of the first of a row's two experts, as a sigmoid of the two scores. -/
def gateOf (X : S2048x512.Idx → EReal) (R : S512x16.Idx → EReal) (n : Fin 2048) (a b : Fin 16) : EReal :=
  gate (score (fun k => X (ix2 n k)) R a) (score (fun k => X (ix2 n k)) R b)

/-- The result at a row whose two indices name experts `a` and `b`: the sum over all experts of the gated products. -/
theorem out_eq (X : S2048x512.Idx → EReal) (R : S512x16.Idx → EReal) (I : S2048x2.Idx → BitVec 32)
    (E : (⟨3, ![16, 512, 1024]⟩ : Shape).Idx → EReal)
    (hX : ∀ c : Dev nD, (m ((c : Thread nD τ).loc main_arg0) : S2048x512.Idx → EReal) = X)
    (hR : ∀ c : Dev nD, (m ((c : Thread nD τ).loc main_arg1) : S512x16.Idx → EReal) = R)
    (hI : ∀ c : Dev nD, (m ((c : Thread nD τ).loc main_arg2) : S2048x2.Idx → BitVec 32) = I)
    (hE : ∀ (c : Dev nD) (n : Fin 4) (k : Fin 512) (j : Fin 1024), (m ((c : Thread nD τ).loc main_arg3) (ix3 n k j) : EReal) = E (ix3 (expertOf c n) k j))
    (c : Dev nD) (n : Fin 2048) (j : Fin 1024) (a b : Fin 16)
    (ha : I (ix2 n 0) = BitVec.ofNat 32 a.val) (hb : I (ix2 n 1) = BitVec.ofNat 32 b.val) :
    (outA m ρ c (ix2 n j) : EReal) = ∑ e : Fin 16, term (fun k => X (ix2 n k)) (fun k => E (ix3 e k j))
      (pick a b (gateOf X R n a b) (1 - gateOf X R n a b) e) := by
  have hn : n = rowIx ⟨n.val / 512, by have := n.isLt; simp only [nD]; omega⟩ ⟨n.val % 512, Nat.mod_lt _ (by decide)⟩ :=
    Fin.ext (by show n.val = 512 * (n.val / 512) + n.val % 512; omega)
  obtain ⟨k, r, rfl⟩ : ∃ (k : Dev nD) (r : Fin 512), n = rowIx k r := ⟨_, _, hn⟩
  rw [out_at, ← sum_experts]
  refine Finset.sum_congr rfl fun dv _ => ?_
  have hx : ∀ q : Fin 512, (xRows m ρ dv k (ix2 r q) : EReal) = X (ix2 (rowIx k r) q) := fun q =>
    (xS_eq m ρ dv _).trans (congrFun (hX dv) _)
  have hw : (wS m ρ dv : S512x16.Idx → EReal) = R := funext fun i => (wS_eq m ρ dv i).trans (congrFun (hR dv) i)
  have h0 : iRows m ρ dv k 0 (ix2 r 0) = BitVec.ofNat 32 a.val := ((iS_eq m ρ dv _).trans (congrFun (hI dv) _)).trans ha
  have h1 : iRows m ρ dv k 1 (ix2 r 0) = BitVec.ofNat 32 b.val := ((iS_eq m ρ dv _).trans (congrFun (hI dv) _)).trans hb
  refine (chunk_at dv _ _ _ _ _ r j a b h0 h1).trans (Finset.sum_congr rfl fun q _ => ?_)
  have hx' : (fun q : Fin 512 => (xRows m ρ dv k (ix2 r q) : EReal)) = fun q => X (ix2 (rowIx k r) q) := funext hx
  have he : (fun p : Fin 512 => (eS m ρ dv (ix3 q p j) : EReal)) = fun p => E (ix3 (expertOf dv q) p j) :=
    funext fun p => (eS_eq m ρ dv _).trans (hE dv q p j)
  rw [hw, hx', he]
  rfl

end Cert.KernelIdealRun

end
-- ==== Proof.Value.Reference.lean ====
module

public import proofs.«01_k».proof.Proof.Gen.ReferenceIdeal.Read
public import proofs.«01_k».proof.Proof.Value.Mix
public import Idealize.ShloMosaic.Lib.KernelVsHost
public import Idealize.ShloMosaic.Lib.ReduceAll
public import Idealize.ShloMosaic.Lib.ValueIdx
public import Idealize.ShloMosaic.Lib.WordCmp

/-! # The reference, read at an index

Where a row's two routing indices name experts `a` and `b`, the reference's result is the two experts' products weighted
by the shares of their probabilities. -/

@[expose] public section

noncomputable section

namespace Cert.RefValue

open Cert.ReferenceIdeal Cert.ReferenceIdeal.Gen Cert.ReferenceIdeal.Read Cert.Mix
open Idealize.ShloMosaic Idealize.ShloMosaic.ValueIdx
open scoped BigOperators

variable (x0 : S2048x512.Idx → EReal) (x1 : S512x16.Idx → EReal) (x2 : S2048x2.Idx → BitVec 32) (x3 : S16x512x1024.Idx → EReal)

/-- The router's score of row `n` for expert `e`. -/
def score (n : Fin 2048) (e : Fin 16) : EReal := ∑ k : Fin 512, x0 (ix2 n k) * x1 (ix2 k e)

/-- The product of the tokens with the router's weights is the score. -/
theorem score_at (n : Fin 2048) (e : Fin 16) : val_main_v2 (F := Ideal) x0 x1 (ix2 n e) = score x0 x1 n e := by
  rw [val_main_v2_apply]
  refine Finset.sum_congr rfl fun k _ => ?_
  have h1 : lidx_main_v2 (ix2 n e) k = ix2 n k := funext fun d => match d with | ⟨0, _⟩ => rfl | ⟨1, _⟩ => rfl
  have h2 : ridx_main_v2 (ix2 n e) k = ix2 k e := funext fun d => match d with | ⟨0, _⟩ => rfl | ⟨1, _⟩ => rfl
  rw [h1, h2]
  rfl

/-! ## The row's largest score -/

/-- The largest score of row `n`. -/
def top (n : Fin 2048) : EReal := val_main_v3 (F := Ideal) x0 x1 (ix1 n)

/-- The largest of finite scores is finite. -/
theorem top_real (n : Fin 2048) (hs : ∀ e, IsReal (score x0 x1 n e)) : IsReal (top x0 x1 n) := by
  have hr : S2048x16.Reduces [1] S2048 := by decide
  have h1 := hostReduce_maximumf_eq_multiReduction (F := Ideal) (φ := .f32) (val_main_v2 (F := Ideal) x0 x1) 0xFF800000#32
    reducesTo_S2048x16_S2048_d1 h_S_ hr (.inl rfl) rfl
  have h2 : top x0 x1 n = (Finset.univ : Finset (Fin 16)).fold max ⊥ (score x0 x1 n) := by
    refine (congrFun h1 (ix1 n)).trans ?_
    refine (Ideal.multiReduction_maximumf_single _ _ _ _ _ _).trans ?_
    have hl : ∀ k : Fin 16, hr.lift (ix1 n) k = (ix2 n k : S2048x16.Idx) := fun k => by
      funext d; apply Fin.ext
      match d with
      | ⟨0, _⟩ => rfl
      | ⟨1, _⟩ => rfl
    have hf : (val_main_v2 (F := Ideal) x0 x1 ∘ hr.lift (ix1 n) : Fin 16 → EReal) = score x0 x1 n := funext fun k =>
      (congrArg (val_main_v2 (F := Ideal) x0 x1) (hl k)).trans (score_at x0 x1 n k)
    have hb : (FloatOps.ofBits (F := Ideal) .f32 0xFF800000#32 : EReal) = ⊥ := by
      show Ideal.ofBits .f32 0xFF800000#32 = ⊥
      simp [Ideal.ofBits, Ideal.ieee]
    exact congrArg₂ (fun (u : EReal) (f : Fin 16 → EReal) => (Finset.univ : Finset (Fin 16)).fold max u f) hb hf
  rw [h2]
  exact IsReal.fold_max (by decide) hs

/-! ## Probabilities -/

/-- The normalised exponentials are the softmax probabilities. -/
theorem prob_at (n : Fin 2048) (e : Fin 16) :
    val_main_v11 (F := Ideal) x0 x1 (ix2 n e) = prob (score x0 x1 n) (top x0 x1 n) e := by
  have h7 : ∀ e : Fin 16, val_main_v7 (F := Ideal) x0 x1 (ix2 n e) = Ideal.exp (score x0 x1 n e - top x0 x1 n) := fun e => by
    rw [val_main_v7_apply, val_main_v6_apply, score_at, val_main_v5_apply, val_main_v4_apply]
    have hi : idx_main_v4 (idx_main_v5 (ix2 n e)) = ix1 n := funext fun d => match d with | ⟨0, _⟩ => rfl
    rw [hi]
    rfl
  rw [val_main_v11_apply, h7, val_main_v10_apply, val_main_v9_apply]
  have hi : idx_main_v9 (idx_main_v10 (ix2 n e)) = ix1 n := funext fun d => match d with | ⟨0, _⟩ => rfl
  rw [hi, val_main_v8_apply]
  have hk : ∀ k : Fin 16, idx_main_v8 (ix1 n) k = ix2 n k := fun k => funext fun d => match d with | ⟨0, _⟩ => rfl | ⟨1, _⟩ => rfl
  simp only [hk, h7]
  rw [val_main_cst_0_apply]
  show Ideal.div _ (Ideal.ofBits .f32 0x00000000#32 + _) = _
  rw [Ideal.ofBits_zero_f32]
  rfl

/-! ## Reading at a routing index -/

/-- The word of an expert's number: its value, and how it compares with 0 and 15. -/
theorem word_facts (a : Fin 16) : (BitVec.ofNat 32 a.val).toInt.toNat = a.val ∧ IntOp.cmpi .slt (BitVec.ofNat 32 a.val) 0#32 = 0#1
    ∧ IntOp.cmpi .sge (BitVec.ofNat 32 a.val) 0#32 = 1#1 ∧ IntOp.cmpi .sle (BitVec.ofNat 32 a.val) 15#32 = 1#1 := by
  revert a; decide

/-- The gather along a row reads the column that the row's index names. -/
theorem pick_row (x : S2048x16.Idx → EReal) (idx : IVec S2048x1x1 32) (n : Fin 2048) (a : Fin 16)
    (h : idx (ix3 n 0 0) = BitVec.ofNat 32 a.val) :
    Host.gather gather_S2048x16_S2048x1x1_S2048x1_n_1_0_0_1_2_11 x idx (ix2 n 0) = x (ix2 n a) := by
  unfold Host.gather
  congr 1
  funext d
  refine Fin.ext ?_
  show gather_S2048x16_S2048x1x1_S2048x1_n_1_0_0_1_2_11.start (ix2 n 0) idx d
    + gather_S2048x16_S2048x1x1_S2048x1_n_1_0_0_1_2_11.batchCoord (ix2 n 0) d
    + gather_S2048x16_S2048x1x1_S2048x1_n_1_0_0_1_2_11.offCoord (ix2 n 0) d = _
  have h01 : d = 0 ∨ d = 1 := by
    match d with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S2048x16_S2048x1x1_S2048x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2048x16_S2048x1x1_S2048x1_n_1_0_0_1_2_11.startIndexMap from List.mem_singleton.mpr rfl)]
    have hsi : gather_S2048x16_S2048x1x1_S2048x1_n_1_0_0_1_2_11.siIdx (ix2 n 0)
        ⟨List.idxOf (1 : Fin 2) gather_S2048x16_S2048x1x1_S2048x1_n_1_0_0_1_2_11.startIndexMap,
          List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    rw [hsi, h, (word_facts a).1]
    show min a.val (16 - 1) = a.val
    omega

/-- The gather of matrices reads the one that the row's index names. -/
theorem pick_matrix (x : S16x512x1024.Idx → EReal) (idx : IVec S2048x1 32) (n : Fin 2048) (k : Fin 512) (j : Fin 1024) (a : Fin 16)
    (h : idx (ix2 n 0) = BitVec.ofNat 32 a.val) :
    Host.gather gather_S16x512x1024_S2048x1_S2048x512x1024_12_0_n_n_0_1_15121024 x idx (ix3 n k j) = x (ix3 a k j) := by
  unfold Host.gather
  congr 1
  funext d
  refine Fin.ext ?_
  show gather_S16x512x1024_S2048x1_S2048x512x1024_12_0_n_n_0_1_15121024.start (ix3 n k j) idx d
    + gather_S16x512x1024_S2048x1_S2048x512x1024_12_0_n_n_0_1_15121024.batchCoord (ix3 n k j) d
    + gather_S16x512x1024_S2048x1_S2048x512x1024_12_0_n_n_0_1_15121024.offCoord (ix3 n k j) d = _
  rw [GatherDims.batchCoord_eq_zero _ _ _ (fun h => absurd h List.not_mem_nil), Nat.add_zero]
  have h012 : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ gather_S16x512x1024_S2048x1_S2048x512x1024_12_0_n_n_0_1_15121024.startIndexMap from List.mem_singleton.mpr rfl)]
    have hsi : gather_S16x512x1024_S2048x1_S2048x512x1024_12_0_n_n_0_1_15121024.siIdx (ix3 n k j)
        ⟨List.idxOf (0 : Fin 3) gather_S16x512x1024_S2048x1_S2048x512x1024_12_0_n_n_0_1_15121024.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi, h, (word_facts a).1]
    show min a.val (16 - 1) = a.val
    omega
  · unfold GatherDims.start
    rw [dif_neg (show ¬(1 : Fin 3) ∈ gather_S16x512x1024_S2048x1_S2048x512x1024_12_0_n_n_0_1_15121024.startIndexMap by decide), Nat.zero_add]
    unfold GatherDims.offCoord
    rw [dif_pos (by decide)]
    rfl
  · unfold GatherDims.start
    rw [dif_neg (show ¬(2 : Fin 3) ∈ gather_S16x512x1024_S2048x1_S2048x512x1024_12_0_n_n_0_1_15121024.startIndexMap by decide), Nat.zero_add]
    unfold GatherDims.offCoord
    rw [dif_pos (by decide)]
    rfl

/-- The two indices of every row name experts: `A n` and `B n`. -/
def Routed (A B : Fin 2048 → Fin 16) : Prop :=
  ∀ n, x2 (ix2 n 0) = BitVec.ofNat 32 (A n).val ∧ x2 (ix2 n 1) = BitVec.ofNat 32 (B n).val

/-- The start index of the gather for column 0 is the routing index. -/
theorem start0 (A B : Fin 2048 → Fin 16) (h : Routed x2 A B) (i : S2048x1x1.Idx) :
    val_main_call0_v5 (F := Ideal) x2 i = BitVec.ofNat 32 (A (i 0)).val := by
  rw [val_main_call0_v5_apply, val_main_call0_v4_apply, val_main_call0_v1_apply, val_main_v16_apply, val_main_call0_v0_apply, val_main_call0_c_apply]
  have h1 : (i 1).val < 1 := (i 1).isLt
  have h2 : (i 2).val < 1 := (i 2).isLt
  have hi : idx_main_v16 (idx_main_call0_v5 i) = ix2 (i 0) 0 := by
    funext d
    apply Fin.ext
    match d with
    | ⟨0, _⟩ => show (((i 0).val * 1 + (i 1).val) * 1 + (i 2).val) / 1 = (i 0).val; omega
    | ⟨1, _⟩ => rfl
  rw [(congrArg x2 hi).trans (h (i 0)).1, (word_facts (A (i 0))).2.1]
  rfl

/-- The probability gathered for column 0 is that of the expert the routing index names. -/
theorem gathered0 (A B : Fin 2048 → Fin 16) (h : Routed x2 A B) (n : Fin 2048) :
    val_main_v17 (F := Ideal) x0 x1 x2 (ix2 n 0) = prob (score x0 x1 n) (top x0 x1 n) (A n) := by
  have hm : val_main_call0_v12 (F := Ideal) x2 (ix2 n 0) = 1#1 := by
    refine Host.reduce_andi_one _ _ _ _ _ rfl fun i => ?_
    rw [val_main_call0_v11_apply, val_main_call0_v7_apply, val_main_call0_v10_apply, start0 x2 A B h, val_main_call0_v6_apply, val_main_call0_c_2_apply,
      val_main_call0_v9_apply, val_main_call0_v8_apply, val_main_call0_c_1_apply, (word_facts (A (i 0))).2.2.1, (word_facts (A (i 0))).2.2.2]
    rfl
  rw [val_main_v17_apply, hm, select_one]
  exact (pick_row _ _ n (A n) (start0 x2 A B h _)).trans (prob_at x0 x1 n (A n))

/-- The start index of the gather for column 1 is the routing index. -/
theorem start1 (A B : Fin 2048 → Fin 16) (h : Routed x2 A B) (i : S2048x1x1.Idx) :
    val_main_call1_v5 (F := Ideal) x2 i = BitVec.ofNat 32 (B (i 0)).val := by
  rw [val_main_call1_v5_apply, val_main_call1_v4_apply, val_main_call1_v1_apply, val_main_v18_apply, val_main_call1_v0_apply, val_main_call1_c_apply]
  have h1 : (i 1).val < 1 := (i 1).isLt
  have h2 : (i 2).val < 1 := (i 2).isLt
  have hi : idx_main_v18 (idx_main_call1_v5 i) = ix2 (i 0) 1 := by
    funext d
    apply Fin.ext
    match d with
    | ⟨0, _⟩ => show (((i 0).val * 1 + (i 1).val) * 1 + (i 2).val) / 1 = (i 0).val; omega
    | ⟨1, _⟩ => rfl
  rw [(congrArg x2 hi).trans (h (i 0)).2, (word_facts (B (i 0))).2.1]
  rfl

/-- The probability gathered for column 1 is that of the expert the routing index names. -/
theorem gathered1 (A B : Fin 2048 → Fin 16) (h : Routed x2 A B) (n : Fin 2048) :
    val_main_v19 (F := Ideal) x0 x1 x2 (ix2 n 0) = prob (score x0 x1 n) (top x0 x1 n) (B n) := by
  have hm : val_main_call1_v12 (F := Ideal) x2 (ix2 n 0) = 1#1 := by
    refine Host.reduce_andi_one _ _ _ _ _ rfl fun i => ?_
    rw [val_main_call1_v11_apply, val_main_call1_v7_apply, val_main_call1_v10_apply, start1 x2 A B h, val_main_call1_v6_apply, val_main_call1_c_2_apply,
      val_main_call1_v9_apply, val_main_call1_v8_apply, val_main_call1_c_1_apply, (word_facts (B (i 0))).2.2.1, (word_facts (B (i 0))).2.2.2]
    rfl
  rw [val_main_v19_apply, hm, select_one]
  exact (pick_row _ _ n (B n) (start1 x2 A B h _)).trans (prob_at x0 x1 n (B n))

/-- The matrix gathered for column 0 is that of the expert the routing index names. -/
theorem matrix0 (A B : Fin 2048 → Fin 16) (h : Routed x2 A B) (n : Fin 2048) (k : Fin 512) (j : Fin 1024) :
    val_main_v28 (F := Ideal) x2 x3 (ix3 n k j) = x3 (ix3 (A n) k j) := by
  refine (pick_matrix _ _ n k j (A n) ?_).trans rfl
  rw [val_main_v27_apply, val_main_v26_apply, val_main_v23_apply, val_main_v13_apply, val_main_v12_apply, val_main_v22_apply, val_main_c_apply]
  have hi : idx_main_v12 (idx_main_v13 (idx_main_v27 (ix2 n 0))) = ix2 n 0 := by
    funext d
    apply Fin.ext
    match d with
    | ⟨0, _⟩ => show n.val / 1 = n.val; omega
    | ⟨1, _⟩ => rfl
  rw [hi, (h n).1, (word_facts (A n)).2.1]
  rfl

/-- The product for column 0. -/
theorem product0 (A B : Fin 2048 → Fin 16) (h : Routed x2 A B) (n : Fin 2048) (j : Fin 1024) :
    val_main_v29 (F := Ideal) x0 x2 x3 (ix2 n j) = ∑ k : Fin 512, x0 (ix2 n k) * x3 (ix3 (A n) k j) := by
  rw [val_main_v29_apply]
  refine Finset.sum_congr rfl fun k _ => ?_
  have h1 : lidx_main_v29 (ix2 n j) k = ix2 n k := funext fun d => match d with | ⟨0, _⟩ => rfl | ⟨1, _⟩ => rfl
  have h2 : ridx_main_v29 (ix2 n j) k = ix3 n k j := funext fun d => match d with | ⟨0, _⟩ => rfl | ⟨1, _⟩ => rfl | ⟨2, _⟩ => rfl
  rw [h1, h2, matrix0 x2 x3 A B h]
  rfl

/-- The matrix gathered for column 1 is that of the expert the routing index names. -/
theorem matrix1 (A B : Fin 2048 → Fin 16) (h : Routed x2 A B) (n : Fin 2048) (k : Fin 512) (j : Fin 1024) :
    val_main_v36 (F := Ideal) x2 x3 (ix3 n k j) = x3 (ix3 (B n) k j) := by
  refine (pick_matrix _ _ n k j (B n) ?_).trans rfl
  rw [val_main_v35_apply, val_main_v34_apply, val_main_v31_apply, val_main_v15_apply, val_main_v14_apply, val_main_v30_apply, val_main_c_2_apply]
  have hi : idx_main_v14 (idx_main_v15 (idx_main_v35 (ix2 n 0))) = ix2 n 1 := by
    funext d
    apply Fin.ext
    match d with
    | ⟨0, _⟩ => show n.val / 1 = n.val; omega
    | ⟨1, _⟩ => rfl
  rw [hi, (h n).2, (word_facts (B n)).2.1]
  rfl

/-- The product for column 1. -/
theorem product1 (A B : Fin 2048 → Fin 16) (h : Routed x2 A B) (n : Fin 2048) (j : Fin 1024) :
    val_main_v37 (F := Ideal) x0 x2 x3 (ix2 n j) = ∑ k : Fin 512, x0 (ix2 n k) * x3 (ix3 (B n) k j) := by
  rw [val_main_v37_apply]
  refine Finset.sum_congr rfl fun k _ => ?_
  have h1 : lidx_main_v37 (ix2 n j) k = ix2 n k := funext fun d => match d with | ⟨0, _⟩ => rfl | ⟨1, _⟩ => rfl
  have h2 : ridx_main_v37 (ix2 n j) k = ix3 n k j := funext fun d => match d with | ⟨0, _⟩ => rfl | ⟨1, _⟩ => rfl | ⟨2, _⟩ => rfl
  rw [h1, h2, matrix1 x2 x3 A B h]
  rfl

/-- The reference's result at a row and a column. -/
theorem result_at (A B : Fin 2048 → Fin 16) (h : Routed x2 A B) (n : Fin 2048) (j : Fin 1024) :
    val_main_v44 (F := Ideal) x0 x1 x2 x3 (ix2 n j) =
      Ideal.div (prob (score x0 x1 n) (top x0 x1 n) (A n)) (prob (score x0 x1 n) (top x0 x1 n) (A n) + prob (score x0 x1 n) (top x0 x1 n) (B n))
          * (∑ k : Fin 512, x0 (ix2 n k) * x3 (ix3 (A n) k j))
        + Ideal.div (prob (score x0 x1 n) (top x0 x1 n) (B n)) (prob (score x0 x1 n) (top x0 x1 n) (A n) + prob (score x0 x1 n) (top x0 x1 n) (B n))
          * (∑ k : Fin 512, x0 (ix2 n k) * x3 (ix3 (B n) k j)) := by
  have e1 : idx_main_v39 (ix2 n j) = ix2 n 0 := funext fun d => match d with | ⟨0, _⟩ => rfl | ⟨1, _⟩ => rfl
  have e2 : idx_main_v42 (ix2 n j) = ix2 n 0 := funext fun d => match d with | ⟨0, _⟩ => rfl | ⟨1, _⟩ => rfl
  rw [val_main_v44_apply, val_main_v40_apply, val_main_v43_apply, val_main_v39_apply, val_main_v42_apply, e1, e2, val_main_v38_apply,
    val_main_v41_apply, val_main_v20_apply, gathered0 x0 x1 x2 A B h, gathered1 x0 x1 x2 A B h, product0 x0 x2 x3 A B h, product1 x0 x2 x3 A B h]
  rfl

end Cert.RefValue

end
-- ==== Proof.Value.Equal.lean ====
module

public import proofs.«01_k».proof.Pre_finite_and_routed_KernelIdeal
public import proofs.«01_k».proof.Proof.Value.Total
public import proofs.«01_k».proof.Proof.Value.Reference

/-! # The kernel's result is the reference's

On finite tokens and router weights, with routing indices that name experts. -/

@[expose] public section

noncomputable section

namespace Cert.Equal

open Cert.Mix
open Idealize.ShloMosaic Idealize.ShloMosaic.ValueIdx
open Idealize.ShloMosaic.TcCoe
open scoped BigOperators

/-! ## What the precondition says -/

section Pre
open Cert.Pre_finite_and_routed_KernelIdeal

variable [Cert.Pre_finite_and_routed_KernelIdeal.Facts]

/-- The comparison `|x| < ∞` holds of real numbers only. -/
theorem real_of_lt (x : EReal) (h : FloatOps.cmpf (F := Ideal) (φ := .f32) .olt (max x (-x)) (Ideal.ofBits .f32 0x7F800000#32) = 1#1) : IsReal x := by
  rw [show Ideal.ofBits .f32 0x7F800000#32 = (⊤ : EReal) by simp [Ideal.ofBits, Ideal.ieee]] at h
  refine IsReal.of_abs ?_
  by_contra hn
  have h' : BitVec.ofBool (decide (max x (-x) < (⊤ : EReal))) = 1#1 := h
  rw [decide_eq_false hn] at h'
  exact absurd h' (by decide)

/-- A word that is at least 0 and below 16 is an expert's number. -/
theorem word_of_bounds (v : BitVec 32) (h : IntOp.andi (IntOp.cmpi .sge v 0#32) (IntOp.cmpi .slt v 16#32) = 1#1) :
    ∃ a : Fin 16, v = BitVec.ofNat 32 a.val := by
  rw [WordCmp.cmpi_sge_eq, WordCmp.cmpi_slt_eq] at h
  have hb : ∀ p q : Bool, IntOp.andi (BitVec.ofBool p) (BitVec.ofBool q) = 1#1 → p = true ∧ q = true := by decide
  obtain ⟨h0, h1⟩ := hb _ _ h
  have h0 : 0 ≤ v.toInt := of_decide_eq_true h0
  have h1 : v.toInt < 16 := of_decide_eq_true h1
  have hv : v.toNat < 16 := by
    have := v.isLt
    rw [BitVec.toInt_eq_toNat_cond] at h0 h1
    split at h0 <;> rename_i hc
    · rw [if_pos hc] at h1; omega
    · omega
  exact ⟨⟨v.toNat, hv⟩, by simp⟩

variable (x : FVec Ideal S2048x512 .bf16) (w : FVec Ideal S512x16 .bf16) (i : IVec S2048x2 32) (e : FVec Ideal S4x512x1024 .bf16)

/-- The precondition's first part: every token entry is a real number. -/
theorem tokens_real (h : (fn (F := Ideal) x w i e).1 = fun _ => 1#1) (j : S2048x512.Idx) : IsReal (x j) := real_of_lt (x j) (congrFun h j)

/-- Its second part: every entry of the router's weights is a real number. -/
theorem router_real (h : (fn (F := Ideal) x w i e).2.1 = fun _ => 1#1) (j : S512x16.Idx) : IsReal (w j) := real_of_lt (w j) (congrFun h j)

/-- Its third part: every routing index is an expert's number. -/
theorem routed (h : (fn (F := Ideal) x w i e).2.2 = fun _ => 1#1) (j : S2048x2.Idx) : ∃ a : Fin 16, i j = BitVec.ofNat 32 a.val :=
  word_of_bounds (i j) (congrFun h j)

end Pre

/-! ## The two results -/

open Cert.KernelIdeal Cert.KernelIdealRun

/-- Every device's result array is the reference's result of the whole arrays. -/
theorem out_eq_reference (m : (ℓ : Loc nD τ sig) → Buf (Elt Ideal) ℓ) (ρ : Dev nD → PrngReg)
    (X : S2048x512.Idx → EReal) (R : S512x16.Idx → EReal) (I : S2048x2.Idx → BitVec 32) (E : (⟨3, ![16, 512, 1024]⟩ : Shape).Idx → EReal)
    (hX : ∀ c : Dev nD, (m ((c : Thread nD τ).loc main_arg0) : S2048x512.Idx → EReal) = X)
    (hR : ∀ c : Dev nD, (m ((c : Thread nD τ).loc main_arg1) : S512x16.Idx → EReal) = R)
    (hI : ∀ c : Dev nD, (m ((c : Thread nD τ).loc main_arg2) : S2048x2.Idx → BitVec 32) = I)
    (hE : ∀ (c : Dev nD) (n : Fin 4) (k : Fin 512) (j : Fin 1024), (m ((c : Thread nD τ).loc main_arg3) (ix3 n k j) : EReal) = E (ix3 (expertOf c n) k j))
    (rX : ∀ j, IsReal (X j)) (rR : ∀ j, IsReal (R j)) (rI : ∀ j, ∃ a : Fin 16, I j = BitVec.ofNat 32 a.val) (c : Dev nD) :
    (outA m ρ c : S2048x1024.Idx → EReal) = Cert.ReferenceIdeal.Read.val_main_v44 (F := Ideal) X R I E := by
  choose f hf using rI
  have hroute : Cert.RefValue.Routed I (fun n => f (ix2 n 0)) (fun n => f (ix2 n 1)) := fun n => ⟨hf _, hf _⟩
  funext p
  obtain ⟨n, j, rfl⟩ : ∃ (n : Fin 2048) (j : Fin 1024), p = ix2 n j := ⟨p 0, p 1, eq_ix2 p⟩
  have hs : ∀ e, IsReal (Cert.RefValue.score X R n e) := fun e => IsReal.sum fun k => (rX _).mul (rR _)
  obtain ⟨r, h0, h1, hg, ha, hb⟩ := gate_spec hs (Cert.RefValue.top_real X R n hs) (f (ix2 n 0)) (f (ix2 n 1))
  rw [Cert.RefValue.result_at X R I E _ _ hroute n j, ha, hb, ← sum_term (fun k => X (ix2 n k)) (fun e k => E (ix3 e k j)) _ _ h0 h1]
  refine (out_eq m ρ X R I E hX hR hI hE c n j _ _ (hf _) (hf _)).trans (Finset.sum_congr rfl fun e _ => ?_)
  have hg' : gateOf X R n (f (ix2 n 0)) (f (ix2 n 1)) = (r : EReal) := hg
  rw [hg', show (1 : EReal) - (r : EReal) = ((1 - r : ℝ) : EReal) from rfl]

end Cert.Equal

end
-- ==== Proof.lean ====
module

public import proofs.«01_k».proof.Defs
public import proofs.«01_k».proof.Proof.Kernel.Run
public import proofs.«01_k».proof.Proof.KernelIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Value.Equal
public import Idealize.ShloMosaic.Adequacy
public import Idealize.ShloMosaic.Init

@[expose] public section

noncomputable section

namespace Cert.Proof

open Idealize.ShloMosaic Idealize.SL.Sem

/-- The kernel as printed runs on every device, leaves its arguments as they were and every counter at zero. -/
theorem frame_kernel : Cert.quiescent_Kernel (hKernel := Cert.Kernel.Gen.facts) := fun m g _ =>
  (θ_run _ _ _).mono (fun _ h => ⟨fun c => (h.1 c).2, h.2⟩) (Cert.KernelRun.run_value (F := Bits) m g)

/-- So does the idealized kernel. -/
theorem frame_ideal : Cert.quiescent_KernelIdeal (hKernelIdeal := Cert.KernelIdeal.Gen.facts) := fun m g _ =>
  (θ_run _ _ _).mono (fun _ h => ⟨fun c => (h.1 c).2, h.2⟩) (Cert.KernelIdealRun.run_value (F := Ideal) m g)

/-- So does the idealized reference: it owns no counter at all. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- The shape relations that the precondition states, at the kernel's shapes. -/
theorem pre_kernel : Cert.Pre_finite_and_routed_KernelIdeal.Facts := ⟨by decide, by decide, by decide, by decide⟩

/-- The shape relations that the precondition states, at the reference's shapes. -/
theorem pre_reference : Cert.Pre_finite_and_routed_ReferenceIdeal.Facts := ⟨by decide, by decide, by decide, by decide⟩

/-- On finite tokens and router weights, with indices that name experts, the idealized kernel's result on every device is the
    idealized reference's. -/
theorem equal : Cert.algebraic_KernelIdeal_ReferenceIdeal_pre_finite_and_routed_KernelIdeal (hKernelIdeal := Cert.KernelIdeal.Gen.facts)
    (hReferenceIdeal := Cert.ReferenceIdeal.Gen.facts) (hPre_finite_and_routed_KernelIdeal := pre_kernel) := fun m g m' g' hp ha => by
  haveI := pre_kernel
  refine ⟨Cert.ReferenceIdeal.Value.res_main_v44 m' 0, ?_, ?_⟩
  · refine (θ_run _ _ _).mono (fun r h c => ⟨((h.1 c).1).trans ?_, (h.1 c).2⟩) (Cert.KernelIdealRun.run_value (F := Ideal) m g)
    rw [Cert.ReferenceIdeal.Read.val_main_v44_eq]
    refine Cert.Equal.out_eq_reference m g _ _ _ _ (fun c => (ha c).1) (fun c => (ha c).2.1) (fun c => (ha c).2.2.1) ?_ ?_ ?_ ?_ c
    · intro c n k j
      refine (congrFun (ha c).2.2.2 (ValueIdx.ix3 n k j)).trans ?_
      rw [Layout.block_apply]
      congr 1
      funext d
      apply Fin.ext
      rw [Layout.Tiles.idx_val]
      match d with
      | ⟨0, _⟩ => show c.val * 4 + n.val = 4 * c.val + n.val; omega
      | ⟨1, _⟩ => rfl
      | ⟨2, _⟩ => rfl
    · intro j; rw [← (ha 0).1]; exact Cert.Equal.tokens_real _ _ _ _ (hp 0).1 j
    · intro j; rw [← (ha 0).2.1]; exact Cert.Equal.router_real _ _ _ _ (hp 0).2.1 j
    · intro j; rw [← (ha 0).2.2.1]; exact Cert.Equal.routed _ _ _ _ (hp 0).2.2 j
  · exact (θ_run _ _ _).mono (fun r h => h 0) (Cert.ReferenceIdeal.Value.run (F := Ideal) m' g')

/-- Every claim. -/
theorem claim : Cert.Claim :=
  ⟨Cert.Kernel.Gen.facts, Cert.KernelIdeal.Gen.facts, Cert.ReferenceIdeal.Gen.facts, pre_kernel, pre_reference,
    frame_kernel, frame_ideal, fun m g _ => frame_ideal m g trivial, frame_reference, fun m g _ => frame_reference m g trivial, trivial, equal⟩

end Cert.Proof

end
